-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x20000x64 : Shape := ⟨3, ![8, 20000, 64]⟩
abbrev S8 : Shape := ⟨1, ![8]⟩
abbrev S64x90 : Shape := ⟨2, ![64, 90]⟩
abbrev S64x4 : Shape := ⟨2, ![64, 4]⟩
abbrev S20000x4 : Shape := ⟨2, ![20000, 4]⟩
abbrev S8x20000x90 : Shape := ⟨3, ![8, 20000, 90]⟩
abbrev S8x20000x4 : Shape := ⟨3, ![8, 20000, 4]⟩
abbrev S1x4000x64 : Shape := ⟨3, ![1, 4000, 64]⟩
abbrev S1x4000x90 : Shape := ⟨3, ![1, 4000, 90]⟩
abbrev S1x4000x4 : Shape := ⟨3, ![1, 4000, 4]⟩
abbrev S4000x64 : Shape := ⟨2, ![4000, 64]⟩
abbrev S4000x90 : Shape := ⟨2, ![4000, 90]⟩
abbrev S4000x4 : Shape := ⟨2, ![4000, 4]⟩
abbrev S8x1800000 : Shape := ⟨2, ![8, 1800000]⟩
abbrev S8x1000 : Shape := ⟨2, ![8, 1000]⟩
abbrev S_ : Shape := ⟨0, ![]⟩
abbrev S8x1000x1 : Shape := ⟨3, ![8, 1000, 1]⟩
abbrev S1 : Shape := ⟨1, ![1]⟩
abbrev S1x1x1 : Shape := ⟨3, ![1, 1, 1]⟩
abbrev S8x1000x4 : Shape := ⟨3, ![8, 1000, 4]⟩
abbrev S8x1024 : Shape := ⟨2, ![8, 1024]⟩
abbrev S8x128 : Shape := ⟨2, ![8, 128]⟩
abbrev S8x1 : Shape := ⟨2, ![8, 1]⟩
abbrev S8x100 : Shape := ⟨2, ![8, 100]⟩
abbrev S8x100x1 : Shape := ⟨3, ![8, 100, 1]⟩
abbrev S8x100x4 : Shape := ⟨3, ![8, 100, 4]⟩
abbrev S8x1x1 : Shape := ⟨3, ![8, 1, 1]⟩
abbrev S8x100x7 : Shape := ⟨3, ![8, 100, 7]⟩

abbrev nBuf : Space → Nat
  | .hbm => 276
  | .vmem => 20
  | .smem => 0
  | _ => 0

abbrev hbmTy0_0 (i : Nat) : BufTy := match i % 128 with
  | 0 => ⟨S8x20000x64, .f32⟩
  | 1 => ⟨S8, .i32⟩
  | 2 => ⟨S8, .f32⟩
  | 3 => ⟨S64x90, .f32⟩
  | 4 => ⟨S64x4, .f32⟩
  | 5 => ⟨S20000x4, .f32⟩
  | 6 => ⟨S8x20000x90, .f32⟩
  | 7 => ⟨S8x20000x4, .f32⟩
  | 8 => ⟨S8x1800000, .f32⟩
  | 9 => ⟨S8x1000, .f32⟩
  | 10 => ⟨S8x1000, .i32⟩
  | 11 => ⟨S_, .i32⟩
  | 12 => ⟨S_, .i32⟩
  | 13 => ⟨S8x1000, .i32⟩
  | 14 => ⟨S8x1000, .i32⟩
  | 15 => ⟨S8x1000, .i32⟩
  | 16 => ⟨S_, .i32⟩
  | 17 => ⟨S8x1000, .i32⟩
  | 18 => ⟨S8x1000, .i1⟩
  | 19 => ⟨S8x1000, .i32⟩
  | 20 => ⟨S8x1000, .i32⟩
  | 21 => ⟨S_, .i32⟩
  | 22 => ⟨S8x1000, .i32⟩
  | 23 => ⟨S8x1000, .i1⟩
  | 24 => ⟨S8x1000, .i1⟩
  | 25 => ⟨S_, .i32⟩
  | 26 => ⟨S8x1000, .i32⟩
  | 27 => ⟨S8x1000, .i32⟩
  | 28 => ⟨S8x1000, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S8x1000, .i32⟩
  | 36 => ⟨S8x1000, .i32⟩
  | 37 => ⟨S_, .i32⟩
  | 38 => ⟨S8x1000, .i32⟩
  | 39 => ⟨S8x1000, .i1⟩
  | 40 => ⟨S_, .i32⟩
  | 41 => ⟨S8x1000, .i32⟩
  | 42 => ⟨S8x1000, .i1⟩
  | 43 => ⟨S_, .i32⟩
  | 44 => ⟨S_, .i1⟩
  | 45 => ⟨S8x1000, .i1⟩
  | 46 => ⟨S8x1000, .i1⟩
  | 47 => ⟨S8x1000, .i1⟩
  | 48 => ⟨S8x1000, .i32⟩
  | 49 => ⟨S8x1000, .i32⟩
  | 50 => ⟨S8x1000, .i32⟩
  | 51 => ⟨S8x1000x1, .i32⟩
  | 52 => ⟨S_, .i32⟩
  | 53 => ⟨S8x1000x1, .i32⟩
  | 54 => ⟨S8x1000x1, .i1⟩
  | 55 => ⟨S_, .i32⟩
  | 56 => ⟨S8x1000x1, .i32⟩
  | 57 => ⟨S8x1000x1, .i32⟩
  | 58 => ⟨S8x1000x1, .i32⟩
  | 59 => ⟨S1, .i32⟩
  | 60 => ⟨S_, .i32⟩
  | 61 => ⟨S8x1000x1, .i32⟩
  | 62 => ⟨S8x1000x1, .i1⟩
  | 63 => ⟨S1x1x1, .i32⟩
  | 64 => ⟨S8x1000x1, .i32⟩
  | 65 => ⟨S8x1000x1, .i1⟩
  | 66 => ⟨S8x1000x1, .i1⟩
  | 67 => ⟨S_, .i1⟩
  | 68 => ⟨S8x1000, .i1⟩
  | 69 => ⟨S8x1000x4, .f32⟩
  | 70 => ⟨S8x1000x4, .i1⟩
  | 71 => ⟨S_, .f32⟩
  | 72 => ⟨S8x1000x4, .f32⟩
  | 73 => ⟨S8x1000x4, .f32⟩
  | 74 => ⟨S_, .i32⟩
  | 75 => ⟨S8x1000, .i32⟩
  | 76 => ⟨S8x1000, .i1⟩
  | 77 => ⟨S_, .i32⟩
  | 78 => ⟨S8x1000, .i32⟩
  | 79 => ⟨S8x1000, .i32⟩
  | 80 => ⟨S8x1000, .i32⟩
  | 81 => ⟨S8x1000x1, .i32⟩
  | 82 => ⟨S1, .i32⟩
  | 83 => ⟨S_, .i32⟩
  | 84 => ⟨S8x1000x1, .i32⟩
  | 85 => ⟨S8x1000x1, .i1⟩
  | 86 => ⟨S1x1x1, .i32⟩
  | 87 => ⟨S8x1000x1, .i32⟩
  | 88 => ⟨S8x1000x1, .i1⟩
  | 89 => ⟨S8x1000x1, .i1⟩
  | 90 => ⟨S_, .i1⟩
  | 91 => ⟨S8x1000, .i1⟩
  | 92 => ⟨S8x1000x4, .f32⟩
  | 93 => ⟨S8x1000x4, .i1⟩
  | 94 => ⟨S_, .f32⟩
  | 95 => ⟨S8x1000x4, .f32⟩
  | 96 => ⟨S8x1000x4, .f32⟩
  | 97 => ⟨S8x1000x1, .f32⟩
  | 98 => ⟨S8x1000, .f32⟩
  | 99 => ⟨S8x1000x1, .f32⟩
  | 100 => ⟨S8x1000, .f32⟩
  | 101 => ⟨S8x1000, .f32⟩
  | 102 => ⟨S_, .f32⟩
  | 103 => ⟨S8x1000, .f32⟩
  | 104 => ⟨S8x1000, .f32⟩
  | 105 => ⟨S8x1000x1, .f32⟩
  | 106 => ⟨S8x1000, .f32⟩
  | 107 => ⟨S8x1000x1, .f32⟩
  | 108 => ⟨S8x1000, .f32⟩
  | 109 => ⟨S8x1000, .f32⟩
  | 110 => ⟨S_, .f32⟩
  | 111 => ⟨S8x1000, .f32⟩
  | 112 => ⟨S8x1000, .f32⟩
  | 113 => ⟨S8x1000x1, .f32⟩
  | 114 => ⟨S8x1000, .f32⟩
  | 115 => ⟨S8x1000x1, .f32⟩
  | 116 => ⟨S8x1000, .f32⟩
  | 117 => ⟨S8x1000, .f32⟩
  | 118 => ⟨S8x1000x1, .f32⟩
  | 119 => ⟨S8x1000, .f32⟩
  | 120 => ⟨S8x1000x1, .f32⟩
  | 121 => ⟨S8x1000, .f32⟩
  | 122 => ⟨S8x1000, .f32⟩
  | 123 => ⟨S8x1000x1, .f32⟩
  | 124 => ⟨S8x1000, .f32⟩
  | 125 => ⟨S8x1000x1, .f32⟩
  | 126 => ⟨S8x1000, .f32⟩
  | 127 => ⟨S8x1000x1, .f32⟩
  | _ => ⟨S8x20000x64, .f32⟩

abbrev hbmTy0_1 (i : Nat) : BufTy := match i % 128 with
  | 0 => ⟨S8x1000, .f32⟩
  | 1 => ⟨S8x1000x1, .f32⟩
  | 2 => ⟨S8x1000, .f32⟩
  | 3 => ⟨S_, .f32⟩
  | 4 => ⟨S_, .f32⟩
  | 5 => ⟨S_, .f32⟩
  | 6 => ⟨S8x1000, .f32⟩
  | 7 => ⟨S8x1000, .f32⟩
  | 8 => ⟨S_, .f32⟩
  | 9 => ⟨S8x1000, .f32⟩
  | 10 => ⟨S8x1000, .f32⟩
  | 11 => ⟨S8x1000, .f32⟩
  | 12 => ⟨S8x1000, .f32⟩
  | 13 => ⟨S_, .f32⟩
  | 14 => ⟨S_, .f32⟩
  | 15 => ⟨S_, .f32⟩
  | 16 => ⟨S8x1000, .f32⟩
  | 17 => ⟨S8x1000, .f32⟩
  | 18 => ⟨S_, .f32⟩
  | 19 => ⟨S8x1000, .f32⟩
  | 20 => ⟨S8x1000, .f32⟩
  | 21 => ⟨S8x1000, .f32⟩
  | 22 => ⟨S8x1000, .f32⟩
  | 23 => ⟨S8x1000, .f32⟩
  | 24 => ⟨S8x1000, .f32⟩
  | 25 => ⟨S8x1000, .f32⟩
  | 26 => ⟨S8x1000, .f32⟩
  | 27 => ⟨S_, .f32⟩
  | 28 => ⟨S8x1000, .f32⟩
  | 29 => ⟨S8x1000, .f32⟩
  | 30 => ⟨S8x1000, .f32⟩
  | 31 => ⟨S_, .f32⟩
  | 32 => ⟨S8x1000, .f32⟩
  | 33 => ⟨S8x1000, .f32⟩
  | 34 => ⟨S8x1000, .f32⟩
  | 35 => ⟨S_, .f32⟩
  | 36 => ⟨S8x1000, .f32⟩
  | 37 => ⟨S8x1000, .f32⟩
  | 38 => ⟨S8x1000, .f32⟩
  | 39 => ⟨S_, .f32⟩
  | 40 => ⟨S8x1000, .f32⟩
  | 41 => ⟨S8x1000, .f32⟩
  | 42 => ⟨S8x1000, .f32⟩
  | 43 => ⟨S8x1000x1, .f32⟩
  | 44 => ⟨S8x1000x1, .f32⟩
  | 45 => ⟨S8x1000x1, .f32⟩
  | 46 => ⟨S8x1000x1, .f32⟩
  | 47 => ⟨S8x1000x4, .f32⟩
  | 48 => ⟨S8x1000, .f32⟩
  | 49 => ⟨S8x1000, .f32⟩
  | 50 => ⟨S_, .f32⟩
  | 51 => ⟨S8x1000, .f32⟩
  | 52 => ⟨S8x1000, .f32⟩
  | 53 => ⟨S_, .f32⟩
  | 54 => ⟨S8x1000, .f32⟩
  | 55 => ⟨S8x1000, .f32⟩
  | 56 => ⟨S8x1000x1, .f32⟩
  | 57 => ⟨S8x1000, .f32⟩
  | 58 => ⟨S_, .i32⟩
  | 59 => ⟨S_, .f32⟩
  | 60 => ⟨S8x1024, .f32⟩
  | 61 => ⟨S8x1000x1, .f32⟩
  | 62 => ⟨S8x1000, .f32⟩
  | 63 => ⟨S_, .i32⟩
  | 64 => ⟨S_, .f32⟩
  | 65 => ⟨S8x1024, .f32⟩
  | 66 => ⟨S8x1000x1, .f32⟩
  | 67 => ⟨S8x1000, .f32⟩
  | 68 => ⟨S_, .i32⟩
  | 69 => ⟨S_, .f32⟩
  | 70 => ⟨S8x1024, .f32⟩
  | 71 => ⟨S8x1000x1, .f32⟩
  | 72 => ⟨S8x1000, .f32⟩
  | 73 => ⟨S_, .i32⟩
  | 74 => ⟨S_, .f32⟩
  | 75 => ⟨S8x1024, .f32⟩
  | 76 => ⟨S8x1000, .f32⟩
  | 77 => ⟨S_, .i32⟩
  | 78 => ⟨S_, .f32⟩
  | 79 => ⟨S8x1024, .f32⟩
  | 80 => ⟨S_, .f32⟩
  | 81 => ⟨S_, .f32⟩
  | 82 => ⟨S8x1024, .f32⟩
  | 83 => ⟨S8x128, .f32⟩
  | 84 => ⟨S8x128, .f32⟩
  | 85 => ⟨S8x128, .f32⟩
  | 86 => ⟨S8x128, .f32⟩
  | 87 => ⟨S8x128, .f32⟩
  | 88 => ⟨S8x128, .f32⟩
  | 89 => ⟨S8x100, .f32⟩
  | 90 => ⟨S8x100, .f32⟩
  | 91 => ⟨S8x100, .f32⟩
  | 92 => ⟨S8x100, .f32⟩
  | 93 => ⟨S8x100, .f32⟩
  | 94 => ⟨S8x100, .f32⟩
  | 95 => ⟨S_, .f32⟩
  | 96 => ⟨S_, .f32⟩
  | 97 => ⟨S_, .f32⟩
  | 98 => ⟨S8x100, .f32⟩
  | 99 => ⟨S8x100, .f32⟩
  | 100 => ⟨S_, .f32⟩
  | 101 => ⟨S8x100, .f32⟩
  | 102 => ⟨S8x100, .f32⟩
  | 103 => ⟨S_, .f32⟩
  | 104 => ⟨S_, .f32⟩
  | 105 => ⟨S_, .f32⟩
  | 106 => ⟨S8x100, .f32⟩
  | 107 => ⟨S8x100, .f32⟩
  | 108 => ⟨S_, .f32⟩
  | 109 => ⟨S8x100, .f32⟩
  | 110 => ⟨S8x100, .f32⟩
  | 111 => ⟨S_, .f32⟩
  | 112 => ⟨S_, .f32⟩
  | 113 => ⟨S_, .f32⟩
  | 114 => ⟨S8x100, .f32⟩
  | 115 => ⟨S8x100, .f32⟩
  | 116 => ⟨S_, .f32⟩
  | 117 => ⟨S8x100, .f32⟩
  | 118 => ⟨S8x100, .f32⟩
  | 119 => ⟨S_, .f32⟩
  | 120 => ⟨S_, .f32⟩
  | 121 => ⟨S_, .f32⟩
  | 122 => ⟨S8x100, .f32⟩
  | 123 => ⟨S8x100, .f32⟩
  | 124 => ⟨S_, .f32⟩
  | 125 => ⟨S8x100, .f32⟩
  | 126 => ⟨S8x100, .f32⟩
  | 127 => ⟨S8x1, .f32⟩
  | _ => ⟨S8x20000x64, .f32⟩

abbrev hbmTy0_2 (i : Nat) : BufTy := match i % 128 with
  | 0 => ⟨S8x100, .f32⟩
  | 1 => ⟨S8x100, .f32⟩
  | 2 => ⟨S8x100x1, .f32⟩
  | 3 => ⟨S8x100x1, .f32⟩
  | 4 => ⟨S8x100x1, .f32⟩
  | 5 => ⟨S8x100x1, .f32⟩
  | 6 => ⟨S8x100x4, .f32⟩
  | 7 => ⟨S8x1x1, .f32⟩
  | 8 => ⟨S8x100x4, .f32⟩
  | 9 => ⟨S8x100x4, .f32⟩
  | 10 => ⟨S_, .f32⟩
  | 11 => ⟨S8x100, .f32⟩
  | 12 => ⟨S8x100, .f32⟩
  | 13 => ⟨S8, .f32⟩
  | 14 => ⟨S8x1, .f32⟩
  | 15 => ⟨S8x100, .f32⟩
  | 16 => ⟨S8x100x1, .f32⟩
  | 17 => ⟨S8x100x1, .f32⟩
  | 18 => ⟨S8x100x1, .f32⟩
  | 19 => ⟨S8x100x7, .f32⟩
  | _ => ⟨S8x20000x64, .f32⟩

abbrev hbmTy (i : Nat) : BufTy := match i / 128 with
  | 0 => hbmTy0_0 i
  | 1 => hbmTy0_1 i
  | 2 => hbmTy0_2 i
  | _ => ⟨S8x20000x64, .f32⟩

abbrev bufTy : (tb : Table) → Fin (tcTables nBuf tb) → BufTy
  | .hbm, ⟨i, _⟩ => hbmTy i
  | .local _ .vmem, ⟨0, _⟩ => ⟨S1x4000x64, .f32⟩
  | .local _ .vmem, ⟨1, _⟩ => ⟨S1x4000x64, .f32⟩
  | .local _ .vmem, ⟨2, _⟩ => ⟨S64x90, .f32⟩
  | .local _ .vmem, ⟨3, _⟩ => ⟨S64x4, .f32⟩
  | .local _ .vmem, ⟨4, _⟩ => ⟨S1x4000x90, .f32⟩
  | .local _ .vmem, ⟨5, _⟩ => ⟨S1x4000x90, .f32⟩
  | .local _ .vmem, ⟨6, _⟩ => ⟨S1x4000x4, .f32⟩
  | .local _ .vmem, ⟨7, _⟩ => ⟨S1x4000x4, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | _, _ => ⟨S8x20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_values : Ref sig .tc := ⟨.hbm, 9, rfl⟩
abbrev main_indices : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v3 : Ref sig .tc := ⟨.hbm, 50, rfl⟩
abbrev main_v4 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_c_2 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_c_3 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v5 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v6 : Ref sig .tc := ⟨.hbm, 96, rfl⟩
abbrev main_v7 : Ref sig .tc := ⟨.hbm, 97, rfl⟩
abbrev main_v8 : Ref sig .tc := ⟨.hbm, 98, rfl⟩
abbrev main_v9 : Ref sig .tc := ⟨.hbm, 99, rfl⟩
abbrev main_v10 : Ref sig .tc := ⟨.hbm, 100, rfl⟩
abbrev main_v11 : Ref sig .tc := ⟨.hbm, 101, rfl⟩
abbrev main_cst : Ref sig .tc := ⟨.hbm, 102, rfl⟩
abbrev main_v12 : Ref sig .tc := ⟨.hbm, 103, rfl⟩
abbrev main_v13 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_v17 : Ref sig .tc := ⟨.hbm, 108, rfl⟩
abbrev main_v18 : Ref sig .tc := ⟨.hbm, 109, rfl⟩
abbrev main_cst_1 : Ref sig .tc := ⟨.hbm, 110, rfl⟩
abbrev main_v19 : Ref sig .tc := ⟨.hbm, 111, rfl⟩
abbrev main_v20 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_cst_2 : Ref sig .tc := ⟨.hbm, 131, rfl⟩
abbrev main_cst_3 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_cst_4 : Ref sig .tc := ⟨.hbm, 141, rfl⟩
abbrev main_cst_5 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_cst_6 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_cst_7 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_cst_8 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_cst_9 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_v61 : Ref sig .tc := ⟨.hbm, 171, rfl⟩
abbrev main_v62 : Ref sig .tc := ⟨.hbm, 172, rfl⟩
abbrev main_v63 : Ref sig .tc := ⟨.hbm, 173, rfl⟩
abbrev main_v64 : Ref sig .tc := ⟨.hbm, 174, rfl⟩
abbrev main_v65 : Ref sig .tc := ⟨.hbm, 175, rfl⟩
abbrev main_v66 : Ref sig .tc := ⟨.hbm, 176, rfl⟩
abbrev main_v67 : Ref sig .tc := ⟨.hbm, 177, rfl⟩
abbrev main_cst_10 : Ref sig .tc := ⟨.hbm, 178, rfl⟩
abbrev main_v68 : Ref sig .tc := ⟨.hbm, 179, rfl⟩
abbrev main_v69 : Ref sig .tc := ⟨.hbm, 180, rfl⟩
abbrev main_cst_11 : Ref sig .tc := ⟨.hbm, 181, rfl⟩
abbrev main_v70 : Ref sig .tc := ⟨.hbm, 182, rfl⟩
abbrev main_v71 : Ref sig .tc := ⟨.hbm, 183, rfl⟩
abbrev main_v72 : Ref sig .tc := ⟨.hbm, 184, rfl⟩
abbrev main_v73 : Ref sig .tc := ⟨.hbm, 185, rfl⟩
abbrev main_c_12 : Ref sig .tc := ⟨.hbm, 186, rfl⟩
abbrev main_call6_v0 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_c_13 : Ref sig .tc := ⟨.hbm, 191, rfl⟩
abbrev main_call7_v0 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_c_14 : Ref sig .tc := ⟨.hbm, 196, rfl⟩
abbrev main_call8_v0 : Ref sig .tc := ⟨.hbm, 197, rfl⟩
abbrev main_v80 : Ref sig .tc := ⟨.hbm, 198, rfl⟩
abbrev main_v81 : Ref sig .tc := ⟨.hbm, 199, rfl⟩
abbrev main_v82 : Ref sig .tc := ⟨.hbm, 200, rfl⟩
abbrev main_c_15 : Ref sig .tc := ⟨.hbm, 201, rfl⟩
abbrev main_call9_v0 : Ref sig .tc := ⟨.hbm, 202, rfl⟩
abbrev main_v83 : Ref sig .tc := ⟨.hbm, 203, rfl⟩
abbrev main_v84 : Ref sig .tc := ⟨.hbm, 204, rfl⟩
abbrev main_c_16 : Ref sig .tc := ⟨.hbm, 205, rfl⟩
abbrev main_call10_v0 : Ref sig .tc := ⟨.hbm, 206, rfl⟩
abbrev main_v85 : Ref sig .tc := ⟨.hbm, 207, rfl⟩
abbrev main_cst_17 : Ref sig .tc := ⟨.hbm, 208, rfl⟩
abbrev main_call11_v0 : Ref sig .tc := ⟨.hbm, 209, rfl⟩
abbrev main_v86 : Ref sig .tc := ⟨.hbm, 210, rfl⟩
abbrev main_v87_0 : Ref sig .tc := ⟨.hbm, 211, rfl⟩
abbrev main_v87_1 : Ref sig .tc := ⟨.hbm, 212, rfl⟩
abbrev main_v87_2 : Ref sig .tc := ⟨.hbm, 213, rfl⟩
abbrev main_v87_3 : Ref sig .tc := ⟨.hbm, 214, rfl⟩
abbrev main_v87_4 : Ref sig .tc := ⟨.hbm, 215, rfl⟩
abbrev main_v87_5 : Ref sig .tc := ⟨.hbm, 216, rfl⟩
abbrev main_v88 : Ref sig .tc := ⟨.hbm, 217, rfl⟩
abbrev main_v89 : Ref sig .tc := ⟨.hbm, 218, rfl⟩
abbrev main_v90 : Ref sig .tc := ⟨.hbm, 219, rfl⟩
abbrev main_v91 : Ref sig .tc := ⟨.hbm, 220, rfl⟩
abbrev main_v92 : Ref sig .tc := ⟨.hbm, 221, rfl⟩
abbrev main_v93 : Ref sig .tc := ⟨.hbm, 222, rfl⟩
abbrev main_cst_18 : Ref sig .tc := ⟨.hbm, 223, rfl⟩
abbrev main_cst_19 : Ref sig .tc := ⟨.hbm, 224, rfl⟩
abbrev main_call12_v0 : Ref sig .tc := ⟨.hbm, 225, rfl⟩
abbrev main_call12_v1 : Ref sig .tc := ⟨.hbm, 226, rfl⟩
abbrev main_call12_v2 : Ref sig .tc := ⟨.hbm, 227, rfl⟩
abbrev main_call12_v3 : Ref sig .tc := ⟨.hbm, 228, rfl⟩
abbrev main_call12_v4 : Ref sig .tc := ⟨.hbm, 229, rfl⟩
abbrev main_v94 : Ref sig .tc := ⟨.hbm, 230, rfl⟩
abbrev main_cst_20 : Ref sig .tc := ⟨.hbm, 231, rfl⟩
abbrev main_cst_21 : Ref sig .tc := ⟨.hbm, 232, rfl⟩
abbrev main_call13_v0 : Ref sig .tc := ⟨.hbm, 233, rfl⟩
abbrev main_call13_v1 : Ref sig .tc := ⟨.hbm, 234, rfl⟩
abbrev main_call13_v2 : Ref sig .tc := ⟨.hbm, 235, rfl⟩
abbrev main_call13_v3 : Ref sig .tc := ⟨.hbm, 236, rfl⟩
abbrev main_call13_v4 : Ref sig .tc := ⟨.hbm, 237, rfl⟩
abbrev main_v95 : Ref sig .tc := ⟨.hbm, 238, rfl⟩
abbrev main_cst_22 : Ref sig .tc := ⟨.hbm, 239, rfl⟩
abbrev main_cst_23 : Ref sig .tc := ⟨.hbm, 240, rfl⟩
abbrev main_call14_v0 : Ref sig .tc := ⟨.hbm, 241, rfl⟩
abbrev main_call14_v1 : Ref sig .tc := ⟨.hbm, 242, rfl⟩
abbrev main_call14_v2 : Ref sig .tc := ⟨.hbm, 243, rfl⟩
abbrev main_call14_v3 : Ref sig .tc := ⟨.hbm, 244, rfl⟩
abbrev main_call14_v4 : Ref sig .tc := ⟨.hbm, 245, rfl⟩
abbrev main_v96 : Ref sig .tc := ⟨.hbm, 246, rfl⟩
abbrev main_cst_24 : Ref sig .tc := ⟨.hbm, 247, rfl⟩
abbrev main_cst_25 : Ref sig .tc := ⟨.hbm, 248, rfl⟩
abbrev main_call15_v0 : Ref sig .tc := ⟨.hbm, 249, rfl⟩
abbrev main_call15_v1 : Ref sig .tc := ⟨.hbm, 250, rfl⟩
abbrev main_call15_v2 : Ref sig .tc := ⟨.hbm, 251, rfl⟩
abbrev main_call15_v3 : Ref sig .tc := ⟨.hbm, 252, rfl⟩
abbrev main_call15_v4 : Ref sig .tc := ⟨.hbm, 253, rfl⟩
abbrev main_v97 : Ref sig .tc := ⟨.hbm, 254, rfl⟩
abbrev main_v98 : Ref sig .tc := ⟨.hbm, 255, rfl⟩
abbrev main_v99 : Ref sig .tc := ⟨.hbm, 256, rfl⟩
abbrev main_v100 : Ref sig .tc := ⟨.hbm, 257, rfl⟩
abbrev main_v101 : Ref sig .tc := ⟨.hbm, 258, rfl⟩
abbrev main_v102 : Ref sig .tc := ⟨.hbm, 259, rfl⟩
abbrev main_v103 : Ref sig .tc := ⟨.hbm, 260, rfl⟩
abbrev main_v104 : Ref sig .tc := ⟨.hbm, 261, rfl⟩
abbrev main_v105 : Ref sig .tc := ⟨.hbm, 262, rfl⟩
abbrev main_v106 : Ref sig .tc := ⟨.hbm, 263, rfl⟩
abbrev main_v107 : Ref sig .tc := ⟨.hbm, 264, rfl⟩
abbrev main_v108 : Ref sig .tc := ⟨.hbm, 265, rfl⟩
abbrev main_cst_26 : Ref sig .tc := ⟨.hbm, 266, rfl⟩
abbrev main_v109 : Ref sig .tc := ⟨.hbm, 267, rfl⟩
abbrev main_v110 : Ref sig .tc := ⟨.hbm, 268, rfl⟩
abbrev main_v111 : Ref sig .tc := ⟨.hbm, 269, rfl⟩
abbrev main_v112 : Ref sig .tc := ⟨.hbm, 270, rfl⟩
abbrev main_v113 : Ref sig .tc := ⟨.hbm, 271, rfl⟩
abbrev main_v114 : Ref sig .tc := ⟨.hbm, 272, rfl⟩
abbrev main_v115 : Ref sig .tc := ⟨.hbm, 273, rfl⟩
abbrev main_v116 : Ref sig .tc := ⟨.hbm, 274, rfl⟩
abbrev main_v117 : Ref sig .tc := ⟨.hbm, 275, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x90 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4000x90 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4000x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := .none

@[reducible] def k1_t1_loop : Scf.Loop 32 :=
  let c0_i32 : BitVec 32 := 0#32
  let c100_i32 : BitVec 32 := 100#32
  let v24 : BitVec 32 := Scalar.addi c0_i32 c100_i32
  let c1_i32 : BitVec 32 := 1#32
  ⟨c0_i32, v24, c1_i32⟩
abbrev stage1_0 : Fin 1 → Memref sig .tc .vmem S8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S8x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
-- ==== ReferenceIdeal.lean ====
abbrev S8x20000x64 : Shape := ⟨3, ![8, 20000, 64]⟩
abbrev S8 : Shape := ⟨1, ![8]⟩
abbrev S64x90 : Shape := ⟨2, ![64, 90]⟩
abbrev S64x4 : Shape := ⟨2, ![64, 4]⟩
abbrev S20000x4 : Shape := ⟨2, ![20000, 4]⟩
abbrev S8x20000x90 : Shape := ⟨3, ![8, 20000, 90]⟩
abbrev S8x20000x4 : Shape := ⟨3, ![8, 20000, 4]⟩
abbrev S8x1800000 : Shape := ⟨2, ![8, 1800000]⟩
abbrev S8x1000 : Shape := ⟨2, ![8, 1000]⟩
abbrev S_ : Shape := ⟨0, ![]⟩
abbrev S8x1000x1 : Shape := ⟨3, ![8, 1000, 1]⟩
abbrev S1 : Shape := ⟨1, ![1]⟩
abbrev S1x1x1 : Shape := ⟨3, ![1, 1, 1]⟩
abbrev S8x1000x4 : Shape := ⟨3, ![8, 1000, 4]⟩
abbrev S100x8 : Shape := ⟨2, ![100, 8]⟩
abbrev S8x1 : Shape := ⟨2, ![8, 1]⟩
abbrev S8x4 : Shape := ⟨2, ![8, 4]⟩
abbrev S1000 : Shape := ⟨1, ![1000]⟩
abbrev S1x1000 : Shape := ⟨2, ![1, 1000]⟩
abbrev S1x8 : Shape := ⟨2, ![1, 8]⟩
abbrev S8x100 : Shape := ⟨2, ![8, 100]⟩
abbrev S8x100x1 : Shape := ⟨3, ![8, 100, 1]⟩
abbrev S8x100x4 : Shape := ⟨3, ![8, 100, 4]⟩
abbrev S8x1x1 : Shape := ⟨3, ![8, 1, 1]⟩
abbrev S100x1 : Shape := ⟨2, ![100, 1]⟩
abbrev S1x100x1 : Shape := ⟨3, ![1, 100, 1]⟩
abbrev S8x100x7 : Shape := ⟨3, ![8, 100, 7]⟩

abbrev nBuf : Space → Nat
  | .hbm => 401
  | .vmem => 0
  | .smem => 0
  | _ => 0

abbrev hbmTy0_0 (i : Nat) : BufTy := match i % 128 with
  | 0 => ⟨S8x20000x64, .f32⟩
  | 1 => ⟨S8, .i32⟩
  | 2 => ⟨S8, .f32⟩
  | 3 => ⟨S64x90, .f32⟩
  | 4 => ⟨S64x4, .f32⟩
  | 5 => ⟨S20000x4, .f32⟩
  | 6 => ⟨S8x20000x90, .f32⟩
  | 7 => ⟨S8x20000x4, .f32⟩
  | 8 => ⟨S8x1800000, .f32⟩
  | 9 => ⟨S8x1000, .f32⟩
  | 10 => ⟨S8x1000, .i32⟩
  | 11 => ⟨S_, .i32⟩
  | 12 => ⟨S_, .i32⟩
  | 13 => ⟨S8x1000, .i32⟩
  | 14 => ⟨S8x1000, .i32⟩
  | 15 => ⟨S8x1000, .i32⟩
  | 16 => ⟨S_, .i32⟩
  | 17 => ⟨S8x1000, .i32⟩
  | 18 => ⟨S8x1000, .i1⟩
  | 19 => ⟨S8x1000, .i32⟩
  | 20 => ⟨S8x1000, .i32⟩
  | 21 => ⟨S_, .i32⟩
  | 22 => ⟨S8x1000, .i32⟩
  | 23 => ⟨S8x1000, .i1⟩
  | 24 => ⟨S8x1000, .i1⟩
  | 25 => ⟨S_, .i32⟩
  | 26 => ⟨S8x1000, .i32⟩
  | 27 => ⟨S8x1000, .i32⟩
  | 28 => ⟨S8x1000, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S8x1000, .i32⟩
  | 36 => ⟨S8x1000, .i32⟩
  | 37 => ⟨S_, .i32⟩
  | 38 => ⟨S8x1000, .i32⟩
  | 39 => ⟨S8x1000, .i1⟩
  | 40 => ⟨S_, .i32⟩
  | 41 => ⟨S8x1000, .i32⟩
  | 42 => ⟨S8x1000, .i1⟩
  | 43 => ⟨S_, .i32⟩
  | 44 => ⟨S_, .i1⟩
  | 45 => ⟨S8x1000, .i1⟩
  | 46 => ⟨S8x1000, .i1⟩
  | 47 => ⟨S8x1000, .i1⟩
  | 48 => ⟨S8x1000, .i32⟩
  | 49 => ⟨S8x1000, .i32⟩
  | 50 => ⟨S8x1000, .i32⟩
  | 51 => ⟨S8x1000x1, .i32⟩
  | 52 => ⟨S_, .i32⟩
  | 53 => ⟨S8x1000x1, .i32⟩
  | 54 => ⟨S8x1000x1, .i1⟩
  | 55 => ⟨S_, .i32⟩
  | 56 => ⟨S8x1000x1, .i32⟩
  | 57 => ⟨S8x1000x1, .i32⟩
  | 58 => ⟨S8x1000x1, .i32⟩
  | 59 => ⟨S1, .i32⟩
  | 60 => ⟨S_, .i32⟩
  | 61 => ⟨S8x1000x1, .i32⟩
  | 62 => ⟨S8x1000x1, .i1⟩
  | 63 => ⟨S1x1x1, .i32⟩
  | 64 => ⟨S8x1000x1, .i32⟩
  | 65 => ⟨S8x1000x1, .i1⟩
  | 66 => ⟨S8x1000x1, .i1⟩
  | 67 => ⟨S_, .i1⟩
  | 68 => ⟨S8x1000, .i1⟩
  | 69 => ⟨S8x1000x4, .f32⟩
  | 70 => ⟨S8x1000x4, .i1⟩
  | 71 => ⟨S_, .f32⟩
  | 72 => ⟨S8x1000x4, .f32⟩
  | 73 => ⟨S8x1000x4, .f32⟩
  | 74 => ⟨S_, .i32⟩
  | 75 => ⟨S8x1000, .i32⟩
  | 76 => ⟨S8x1000, .i1⟩
  | 77 => ⟨S_, .i32⟩
  | 78 => ⟨S8x1000, .i32⟩
  | 79 => ⟨S8x1000, .i32⟩
  | 80 => ⟨S8x1000, .i32⟩
  | 81 => ⟨S8x1000x1, .i32⟩
  | 82 => ⟨S1, .i32⟩
  | 83 => ⟨S_, .i32⟩
  | 84 => ⟨S8x1000x1, .i32⟩
  | 85 => ⟨S8x1000x1, .i1⟩
  | 86 => ⟨S1x1x1, .i32⟩
  | 87 => ⟨S8x1000x1, .i32⟩
  | 88 => ⟨S8x1000x1, .i1⟩
  | 89 => ⟨S8x1000x1, .i1⟩
  | 90 => ⟨S_, .i1⟩
  | 91 => ⟨S8x1000, .i1⟩
  | 92 => ⟨S8x1000x4, .f32⟩
  | 93 => ⟨S8x1000x4, .i1⟩
  | 94 => ⟨S_, .f32⟩
  | 95 => ⟨S8x1000x4, .f32⟩
  | 96 => ⟨S8x1000x4, .f32⟩
  | 97 => ⟨S8x1000x1, .f32⟩
  | 98 => ⟨S8x1000, .f32⟩
  | 99 => ⟨S8x1000x1, .f32⟩
  | 100 => ⟨S8x1000, .f32⟩
  | 101 => ⟨S8x1000, .f32⟩
  | 102 => ⟨S_, .f32⟩
  | 103 => ⟨S8x1000, .f32⟩
  | 104 => ⟨S8x1000, .f32⟩
  | 105 => ⟨S8x1000x1, .f32⟩
  | 106 => ⟨S8x1000, .f32⟩
  | 107 => ⟨S8x1000x1, .f32⟩
  | 108 => ⟨S8x1000, .f32⟩
  | 109 => ⟨S8x1000, .f32⟩
  | 110 => ⟨S_, .f32⟩
  | 111 => ⟨S8x1000, .f32⟩
  | 112 => ⟨S8x1000, .f32⟩
  | 113 => ⟨S8x1000x1, .f32⟩
  | 114 => ⟨S8x1000, .f32⟩
  | 115 => ⟨S8x1000x1, .f32⟩
  | 116 => ⟨S8x1000, .f32⟩
  | 117 => ⟨S8x1000, .f32⟩
  | 118 => ⟨S8x1000x1, .f32⟩
  | 119 => ⟨S8x1000, .f32⟩
  | 120 => ⟨S8x1000x1, .f32⟩
  | 121 => ⟨S8x1000, .f32⟩
  | 122 => ⟨S8x1000, .f32⟩
  | 123 => ⟨S8x1000x1, .f32⟩
  | 124 => ⟨S8x1000, .f32⟩
  | 125 => ⟨S8x1000x1, .f32⟩
  | 126 => ⟨S8x1000, .f32⟩
  | 127 => ⟨S8x1000x1, .f32⟩
  | _ => ⟨S8x20000x64, .f32⟩

abbrev hbmTy0_1 (i : Nat) : BufTy := match i % 128 with
  | 0 => ⟨S8x1000, .f32⟩
  | 1 => ⟨S8x1000x1, .f32⟩
  | 2 => ⟨S8x1000, .f32⟩
  | 3 => ⟨S_, .f32⟩
  | 4 => ⟨S_, .f32⟩
  | 5 => ⟨S_, .f32⟩
  | 6 => ⟨S8x1000, .f32⟩
  | 7 => ⟨S8x1000, .f32⟩
  | 8 => ⟨S_, .f32⟩
  | 9 => ⟨S8x1000, .f32⟩
  | 10 => ⟨S8x1000, .f32⟩
  | 11 => ⟨S8x1000, .f32⟩
  | 12 => ⟨S8x1000, .f32⟩
  | 13 => ⟨S_, .f32⟩
  | 14 => ⟨S_, .f32⟩
  | 15 => ⟨S_, .f32⟩
  | 16 => ⟨S8x1000, .f32⟩
  | 17 => ⟨S8x1000, .f32⟩
  | 18 => ⟨S_, .f32⟩
  | 19 => ⟨S8x1000, .f32⟩
  | 20 => ⟨S8x1000, .f32⟩
  | 21 => ⟨S8x1000, .f32⟩
  | 22 => ⟨S8x1000, .f32⟩
  | 23 => ⟨S8x1000, .f32⟩
  | 24 => ⟨S8x1000, .f32⟩
  | 25 => ⟨S8x1000, .f32⟩
  | 26 => ⟨S8x1000, .f32⟩
  | 27 => ⟨S_, .f32⟩
  | 28 => ⟨S8x1000, .f32⟩
  | 29 => ⟨S8x1000, .f32⟩
  | 30 => ⟨S8x1000, .f32⟩
  | 31 => ⟨S_, .f32⟩
  | 32 => ⟨S8x1000, .f32⟩
  | 33 => ⟨S8x1000, .f32⟩
  | 34 => ⟨S8x1000, .f32⟩
  | 35 => ⟨S_, .f32⟩
  | 36 => ⟨S8x1000, .f32⟩
  | 37 => ⟨S8x1000, .f32⟩
  | 38 => ⟨S8x1000, .f32⟩
  | 39 => ⟨S_, .f32⟩
  | 40 => ⟨S8x1000, .f32⟩
  | 41 => ⟨S8x1000, .f32⟩
  | 42 => ⟨S8x1000, .f32⟩
  | 43 => ⟨S8x1000x1, .f32⟩
  | 44 => ⟨S8x1000x1, .f32⟩
  | 45 => ⟨S8x1000x1, .f32⟩
  | 46 => ⟨S8x1000x1, .f32⟩
  | 47 => ⟨S8x1000x4, .f32⟩
  | 48 => ⟨S8x1000, .f32⟩
  | 49 => ⟨S8x1000, .f32⟩
  | 50 => ⟨S_, .f32⟩
  | 51 => ⟨S8x1000, .f32⟩
  | 52 => ⟨S8x1000, .f32⟩
  | 53 => ⟨S_, .f32⟩
  | 54 => ⟨S8x1000, .f32⟩
  | 55 => ⟨S8x1000, .f32⟩
  | 56 => ⟨S8x1000, .f32⟩
  | 57 => ⟨S8x1000x1, .f32⟩
  | 58 => ⟨S_, .f32⟩
  | 59 => ⟨S8x1000x1, .f32⟩
  | 60 => ⟨S8x1000x1, .f32⟩
  | 61 => ⟨S8x1000x4, .f32⟩
  | 62 => ⟨S8x1000x4, .f32⟩
  | 63 => ⟨S_, .f32⟩
  | 64 => ⟨S100x8, .f32⟩
  | 65 => ⟨S_, .i32⟩
  | 66 => ⟨S100x8, .i32⟩
  | 67 => ⟨S_, .i32⟩
  | 68 => ⟨S8x1000x4, .f32⟩
  | 69 => ⟨S_, .i32⟩
  | 70 => ⟨S8x1000, .f32⟩
  | 71 => ⟨S100x8, .f32⟩
  | 72 => ⟨S100x8, .i32⟩
  | 73 => ⟨S_, .i32⟩
  | 74 => ⟨S_, .i1⟩
  | 75 => ⟨S8x1, .f32⟩
  | 76 => ⟨S8x1, .i32⟩
  | 77 => ⟨S8, .f32⟩
  | 78 => ⟨S8, .i32⟩
  | 79 => ⟨S8x1, .i32⟩
  | 80 => ⟨S8x4, .f32⟩
  | 81 => ⟨S8x1, .f32⟩
  | 82 => ⟨S8, .f32⟩
  | 83 => ⟨S8x1000x1, .f32⟩
  | 84 => ⟨S8x1000, .f32⟩
  | 85 => ⟨S8x1, .f32⟩
  | 86 => ⟨S8x1000, .f32⟩
  | 87 => ⟨S8x1000, .f32⟩
  | 88 => ⟨S8x1, .f32⟩
  | 89 => ⟨S8, .f32⟩
  | 90 => ⟨S8x1000x1, .f32⟩
  | 91 => ⟨S8x1000, .f32⟩
  | 92 => ⟨S8x1, .f32⟩
  | 93 => ⟨S8x1000, .f32⟩
  | 94 => ⟨S8x1000, .f32⟩
  | 95 => ⟨S8x1, .f32⟩
  | 96 => ⟨S8, .f32⟩
  | 97 => ⟨S8x1000x1, .f32⟩
  | 98 => ⟨S8x1000, .f32⟩
  | 99 => ⟨S8x1, .f32⟩
  | 100 => ⟨S8x1000, .f32⟩
  | 101 => ⟨S8x1000, .f32⟩
  | 102 => ⟨S8x1, .f32⟩
  | 103 => ⟨S8, .f32⟩
  | 104 => ⟨S8x1000x1, .f32⟩
  | 105 => ⟨S8x1000, .f32⟩
  | 106 => ⟨S8x1, .f32⟩
  | 107 => ⟨S8x1000, .f32⟩
  | 108 => ⟨S8x1000, .f32⟩
  | 109 => ⟨S8x1000, .f32⟩
  | 110 => ⟨S_, .f32⟩
  | 111 => ⟨S_, .f32⟩
  | 112 => ⟨S8x1000, .f32⟩
  | 113 => ⟨S8x1000, .f32⟩
  | 114 => ⟨S8x1000, .f32⟩
  | 115 => ⟨S_, .f32⟩
  | 116 => ⟨S_, .f32⟩
  | 117 => ⟨S8x1000, .f32⟩
  | 118 => ⟨S8x1000, .f32⟩
  | 119 => ⟨S8x1000, .f32⟩
  | 120 => ⟨S8x1, .f32⟩
  | 121 => ⟨S8, .f32⟩
  | 122 => ⟨S8x1, .f32⟩
  | 123 => ⟨S8, .f32⟩
  | 124 => ⟨S8, .f32⟩
  | 125 => ⟨S8x1, .f32⟩
  | 126 => ⟨S8, .f32⟩
  | 127 => ⟨S8x1, .f32⟩
  | _ => ⟨S8x20000x64, .f32⟩

abbrev hbmTy0_2 (i : Nat) : BufTy := match i % 128 with
  | 0 => ⟨S8, .f32⟩
  | 1 => ⟨S8, .f32⟩
  | 2 => ⟨S8, .f32⟩
  | 3 => ⟨S8x1000x1, .f32⟩
  | 4 => ⟨S8x1000, .f32⟩
  | 5 => ⟨S8x1000x1, .f32⟩
  | 6 => ⟨S8x1000, .f32⟩
  | 7 => ⟨S8x1000, .f32⟩
  | 8 => ⟨S8x1000x1, .f32⟩
  | 9 => ⟨S8x1000, .f32⟩
  | 10 => ⟨S8x1000x1, .f32⟩
  | 11 => ⟨S8x1000, .f32⟩
  | 12 => ⟨S8x1000, .f32⟩
  | 13 => ⟨S8x1000, .f32⟩
  | 14 => ⟨S8x1, .f32⟩
  | 15 => ⟨S8x1000, .f32⟩
  | 16 => ⟨S8x1000, .f32⟩
  | 17 => ⟨S8x1000, .f32⟩
  | 18 => ⟨S_, .f32⟩
  | 19 => ⟨S8x1000, .f32⟩
  | 20 => ⟨S8x1000, .f32⟩
  | 21 => ⟨S8x1000, .f32⟩
  | 22 => ⟨S_, .f32⟩
  | 23 => ⟨S8x1000, .f32⟩
  | 24 => ⟨S8x1000, .i1⟩
  | 25 => ⟨S_, .f32⟩
  | 26 => ⟨S_, .f32⟩
  | 27 => ⟨S1000, .f32⟩
  | 28 => ⟨S8x1000, .f32⟩
  | 29 => ⟨S8x1000, .f32⟩
  | 30 => ⟨S1000, .i32⟩
  | 31 => ⟨S1x1000, .i32⟩
  | 32 => ⟨S8x1, .i32⟩
  | 33 => ⟨S8x1000, .i32⟩
  | 34 => ⟨S8x1000, .i32⟩
  | 35 => ⟨S8x1000, .i1⟩
  | 36 => ⟨S_, .f32⟩
  | 37 => ⟨S_, .f32⟩
  | 38 => ⟨S1000, .f32⟩
  | 39 => ⟨S8x1000, .f32⟩
  | 40 => ⟨S8x1000, .f32⟩
  | 41 => ⟨S1x8, .f32⟩
  | 42 => ⟨S_, .i32⟩
  | 43 => ⟨S100x8, .f32⟩
  | 44 => ⟨S1x8, .i32⟩
  | 45 => ⟨S_, .i32⟩
  | 46 => ⟨S100x8, .i32⟩
  | 47 => ⟨S_, .i32⟩
  | 48 => ⟨S_, .i32⟩
  | 49 => ⟨S_, .f32⟩
  | 50 => ⟨S100x8, .f32⟩
  | 51 => ⟨S100x8, .f32⟩
  | 52 => ⟨S_, .i32⟩
  | 53 => ⟨S100x8, .i32⟩
  | 54 => ⟨S100x8, .i1⟩
  | 55 => ⟨S_, .i32⟩
  | 56 => ⟨S100x8, .i32⟩
  | 57 => ⟨S100x8, .i32⟩
  | 58 => ⟨S100x8, .i32⟩
  | 59 => ⟨S8x100, .i32⟩
  | 60 => ⟨S8x100x1, .i32⟩
  | 61 => ⟨S1, .i32⟩
  | 62 => ⟨S_, .i32⟩
  | 63 => ⟨S8x100x1, .i32⟩
  | 64 => ⟨S8x100x1, .i1⟩
  | 65 => ⟨S1x1x1, .i32⟩
  | 66 => ⟨S8x100x1, .i32⟩
  | 67 => ⟨S8x100x1, .i1⟩
  | 68 => ⟨S8x100x1, .i1⟩
  | 69 => ⟨S_, .i1⟩
  | 70 => ⟨S8x100, .i1⟩
  | 71 => ⟨S8x100x4, .f32⟩
  | 72 => ⟨S8x100x4, .i1⟩
  | 73 => ⟨S_, .f32⟩
  | 74 => ⟨S8x100x4, .f32⟩
  | 75 => ⟨S8x100x4, .f32⟩
  | 76 => ⟨S_, .f32⟩
  | 77 => ⟨S_, .f32⟩
  | 78 => ⟨S_, .f32⟩
  | 79 => ⟨S8x100x4, .f32⟩
  | 80 => ⟨S8x100x4, .f32⟩
  | 81 => ⟨S_, .f32⟩
  | 82 => ⟨S8x100x4, .f32⟩
  | 83 => ⟨S8x100x4, .f32⟩
  | 84 => ⟨S8x100x1, .f32⟩
  | 85 => ⟨S8x100, .f32⟩
  | 86 => ⟨S8x100x1, .f32⟩
  | 87 => ⟨S8x100, .f32⟩
  | 88 => ⟨S8x100x1, .f32⟩
  | 89 => ⟨S8x100, .f32⟩
  | 90 => ⟨S8x100x1, .f32⟩
  | 91 => ⟨S8x100, .f32⟩
  | 92 => ⟨S8x100, .f32⟩
  | 93 => ⟨S8x100x1, .f32⟩
  | 94 => ⟨S8x100, .f32⟩
  | 95 => ⟨S8x100x1, .f32⟩
  | 96 => ⟨S8x100, .f32⟩
  | 97 => ⟨S8x100, .f32⟩
  | 98 => ⟨S8x100x1, .f32⟩
  | 99 => ⟨S8x100x1, .f32⟩
  | 100 => ⟨S8x100x1, .f32⟩
  | 101 => ⟨S8x100x1, .f32⟩
  | 102 => ⟨S8x100x4, .f32⟩
  | 103 => ⟨S8x1x1, .f32⟩
  | 104 => ⟨S8x100x4, .f32⟩
  | 105 => ⟨S8x100x4, .f32⟩
  | 106 => ⟨S_, .i32⟩
  | 107 => ⟨S100x8, .i32⟩
  | 108 => ⟨S100x8, .i1⟩
  | 109 => ⟨S_, .i32⟩
  | 110 => ⟨S100x8, .i32⟩
  | 111 => ⟨S100x8, .i32⟩
  | 112 => ⟨S100x8, .i32⟩
  | 113 => ⟨S8x100, .i32⟩
  | 114 => ⟨S8x100x1, .i32⟩
  | 115 => ⟨S1, .i32⟩
  | 116 => ⟨S_, .i32⟩
  | 117 => ⟨S8x100x1, .i32⟩
  | 118 => ⟨S8x100x1, .i1⟩
  | 119 => ⟨S1x1x1, .i32⟩
  | 120 => ⟨S8x100x1, .i32⟩
  | 121 => ⟨S8x100x1, .i1⟩
  | 122 => ⟨S8x100x1, .i1⟩
  | 123 => ⟨S_, .i1⟩
  | 124 => ⟨S8x100, .i1⟩
  | 125 => ⟨S8x100, .i32⟩
  | 126 => ⟨S_, .i32⟩
  | 127 => ⟨S8x100, .i32⟩
  | _ => ⟨S8x20000x64, .f32⟩

abbrev hbmTy0_3 (i : Nat) : BufTy := match i % 128 with
  | 0 => ⟨S8x100, .i32⟩
  | 1 => ⟨S8x100, .f32⟩
  | 2 => ⟨S_, .f32⟩
  | 3 => ⟨S8x100, .f32⟩
  | 4 => ⟨S8x100, .f32⟩
  | 5 => ⟨S_, .f32⟩
  | 6 => ⟨S100x1, .f32⟩
  | 7 => ⟨S8, .f32⟩
  | 8 => ⟨S1x100x1, .f32⟩
  | 9 => ⟨S8x1x1, .f32⟩
  | 10 => ⟨S8x100x1, .f32⟩
  | 11 => ⟨S8x100x1, .f32⟩
  | 12 => ⟨S8x100x1, .f32⟩
  | 13 => ⟨S8x100, .f32⟩
  | 14 => ⟨S8x100x1, .f32⟩
  | 15 => ⟨S8x100x1, .f32⟩
  | 16 => ⟨S8x100x7, .f32⟩
  | _ => ⟨S8x20000x64, .f32⟩

abbrev hbmTy (i : Nat) : BufTy := match i / 128 with
  | 0 => hbmTy0_0 i
  | 1 => hbmTy0_1 i
  | 2 => hbmTy0_2 i
  | 3 => hbmTy0_3 i
  | _ => ⟨S8x20000x64, .f32⟩

abbrev bufTy : (tb : Table) → Fin (tcTables nBuf tb) → BufTy
  | .hbm, ⟨i, _⟩ => hbmTy i
  | _, _ => ⟨S8x20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v4 : Ref sig .tc := ⟨.hbm, 50, rfl⟩
abbrev main_v5 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_c_2 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_c_3 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v6 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v7 : Ref sig .tc := ⟨.hbm, 96, rfl⟩
abbrev main_v8 : Ref sig .tc := ⟨.hbm, 97, rfl⟩
abbrev main_v9 : Ref sig .tc := ⟨.hbm, 98, rfl⟩
abbrev main_v10 : Ref sig .tc := ⟨.hbm, 99, rfl⟩
abbrev main_v11 : Ref sig .tc := ⟨.hbm, 100, rfl⟩
abbrev main_v12 : Ref sig .tc := ⟨.hbm, 101, rfl⟩
abbrev main_cst : Ref sig .tc := ⟨.hbm, 102, rfl⟩
abbrev main_v13 : Ref sig .tc := ⟨.hbm, 103, rfl⟩
abbrev main_v14 : Ref sig .tc := ⟨.hbm, 104, rfl⟩
abbrev main_v15 : Ref sig .tc := ⟨.hbm, 105, rfl⟩
abbrev main_v16 : Ref sig .tc := ⟨.hbm, 106, rfl⟩
abbrev main_v17 : Ref sig .tc := ⟨.hbm, 107, rfl⟩
abbrev main_v18 : Ref sig .tc := ⟨.hbm, 108, rfl⟩
abbrev main_v19 : Ref sig .tc := ⟨.hbm, 109, rfl⟩
abbrev main_cst_1 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_cst_2 : Ref sig .tc := ⟨.hbm, 131, rfl⟩
abbrev main_cst_3 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_cst_4 : Ref sig .tc := ⟨.hbm, 141, rfl⟩
abbrev main_cst_5 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_cst_6 : Ref sig .tc := ⟨.hbm, 155, rfl⟩
abbrev main_v50 : Ref sig .tc := ⟨.hbm, 156, rfl⟩
abbrev main_v51 : Ref sig .tc := ⟨.hbm, 157, rfl⟩
abbrev main_v52 : Ref sig .tc := ⟨.hbm, 158, rfl⟩
abbrev main_cst_7 : Ref sig .tc := ⟨.hbm, 159, rfl⟩
abbrev main_v53 : Ref sig .tc := ⟨.hbm, 160, rfl⟩
abbrev main_v54 : Ref sig .tc := ⟨.hbm, 161, rfl⟩
abbrev main_v55 : Ref sig .tc := ⟨.hbm, 162, rfl⟩
abbrev main_cst_8 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_cst_9 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_v63 : Ref sig .tc := ⟨.hbm, 172, rfl⟩
abbrev main_v64 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_cst_10 : Ref sig .tc := ⟨.hbm, 178, rfl⟩
abbrev main_v69 : Ref sig .tc := ⟨.hbm, 179, rfl⟩
abbrev main_v70 : Ref sig .tc := ⟨.hbm, 180, rfl⟩
abbrev main_cst_11 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_v74 : Ref sig .tc := ⟨.hbm, 185, rfl⟩
abbrev main_cst_12 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev main_v78 : Ref sig .tc := ⟨.hbm, 190, rfl⟩
abbrev main_cst_13 : Ref sig .tc := ⟨.hbm, 191, rfl⟩
abbrev main_v79 : Ref sig .tc := ⟨.hbm, 192, rfl⟩
abbrev main_c_14 : Ref sig .tc := ⟨.hbm, 193, rfl⟩
abbrev main_v80 : Ref sig .tc := ⟨.hbm, 194, rfl⟩
abbrev main_c_15 : Ref sig .tc := ⟨.hbm, 195, rfl⟩
abbrev main_v81_0 : Ref sig .tc := ⟨.hbm, 196, rfl⟩
abbrev main_v81_1 : Ref sig .tc := ⟨.hbm, 197, rfl⟩
abbrev main_v81_2 : Ref sig .tc := ⟨.hbm, 198, rfl⟩
abbrev main_v81_3 : Ref sig .tc := ⟨.hbm, 199, rfl⟩
abbrev main_v81_4 : Ref sig .tc := ⟨.hbm, 200, rfl⟩
abbrev main_while0c_c_25 : Ref sig .tc := ⟨.hbm, 201, rfl⟩
abbrev main_while0c_v123 : Ref sig .tc := ⟨.hbm, 202, rfl⟩
abbrev main_while0b_values_25 : Ref sig .tc := ⟨.hbm, 203, rfl⟩
abbrev main_while0b_indices_26 : Ref sig .tc := ⟨.hbm, 204, rfl⟩
abbrev main_while0b_v123 : Ref sig .tc := ⟨.hbm, 205, rfl⟩
abbrev main_while0b_v124 : Ref sig .tc := ⟨.hbm, 206, rfl⟩
abbrev main_while0b_call6_v0 : Ref sig .tc := ⟨.hbm, 207, rfl⟩
abbrev main_while0b_v125 : Ref sig .tc := ⟨.hbm, 208, rfl⟩
abbrev main_while0b_v126 : Ref sig .tc := ⟨.hbm, 209, rfl⟩
abbrev main_while0b_v127 : Ref sig .tc := ⟨.hbm, 210, rfl⟩
abbrev main_while0b_v128 : Ref sig .tc := ⟨.hbm, 211, rfl⟩
abbrev main_while0b_v129 : Ref sig .tc := ⟨.hbm, 212, rfl⟩
abbrev main_while0b_v130 : Ref sig .tc := ⟨.hbm, 213, rfl⟩
abbrev main_while0b_v131 : Ref sig .tc := ⟨.hbm, 214, rfl⟩
abbrev main_while0b_v132 : Ref sig .tc := ⟨.hbm, 215, rfl⟩
abbrev main_while0b_v133 : Ref sig .tc := ⟨.hbm, 216, rfl⟩
abbrev main_while0b_v134 : Ref sig .tc := ⟨.hbm, 217, rfl⟩
abbrev main_while0b_v135 : Ref sig .tc := ⟨.hbm, 218, rfl⟩
abbrev main_while0b_v136 : Ref sig .tc := ⟨.hbm, 219, rfl⟩
abbrev main_while0b_v137 : Ref sig .tc := ⟨.hbm, 220, rfl⟩
abbrev main_while0b_v138 : Ref sig .tc := ⟨.hbm, 221, rfl⟩
abbrev main_while0b_v139 : Ref sig .tc := ⟨.hbm, 222, rfl⟩
abbrev main_while0b_v140 : Ref sig .tc := ⟨.hbm, 223, rfl⟩
abbrev main_while0b_v141 : Ref sig .tc := ⟨.hbm, 224, rfl⟩
abbrev main_while0b_v142 : Ref sig .tc := ⟨.hbm, 225, rfl⟩
abbrev main_while0b_v143 : Ref sig .tc := ⟨.hbm, 226, rfl⟩
abbrev main_while0b_v144 : Ref sig .tc := ⟨.hbm, 227, rfl⟩
abbrev main_while0b_v145 : Ref sig .tc := ⟨.hbm, 228, rfl⟩
abbrev main_while0b_v146 : Ref sig .tc := ⟨.hbm, 229, rfl⟩
abbrev main_while0b_v147 : Ref sig .tc := ⟨.hbm, 230, rfl⟩
abbrev main_while0b_v148 : Ref sig .tc := ⟨.hbm, 231, rfl⟩
abbrev main_while0b_v149 : Ref sig .tc := ⟨.hbm, 232, rfl⟩
abbrev main_while0b_v150 : Ref sig .tc := ⟨.hbm, 233, rfl⟩
abbrev main_while0b_v151 : Ref sig .tc := ⟨.hbm, 234, rfl⟩
abbrev main_while0b_v152 : Ref sig .tc := ⟨.hbm, 235, rfl⟩
abbrev main_while0b_v153 : Ref sig .tc := ⟨.hbm, 236, rfl⟩
abbrev main_while0b_v154 : Ref sig .tc := ⟨.hbm, 237, rfl⟩
abbrev main_while0b_cst_27 : Ref sig .tc := ⟨.hbm, 238, rfl⟩
abbrev main_while0b_call7_v0 : Ref sig .tc := ⟨.hbm, 239, rfl⟩
abbrev main_while0b_call7_v1 : Ref sig .tc := ⟨.hbm, 240, rfl⟩
abbrev main_while0b_v155 : Ref sig .tc := ⟨.hbm, 241, rfl⟩
abbrev main_while0b_v156 : Ref sig .tc := ⟨.hbm, 242, rfl⟩
abbrev main_while0b_cst_28 : Ref sig .tc := ⟨.hbm, 243, rfl⟩
abbrev main_while0b_call8_v0 : Ref sig .tc := ⟨.hbm, 244, rfl⟩
abbrev main_while0b_call8_v1 : Ref sig .tc := ⟨.hbm, 245, rfl⟩
abbrev main_while0b_v157 : Ref sig .tc := ⟨.hbm, 246, rfl⟩
abbrev main_while0b_v158 : Ref sig .tc := ⟨.hbm, 247, rfl⟩
abbrev main_while0b_v159 : Ref sig .tc := ⟨.hbm, 248, rfl⟩
abbrev main_while0b_v160 : Ref sig .tc := ⟨.hbm, 249, rfl⟩
abbrev main_while0b_v161 : Ref sig .tc := ⟨.hbm, 250, rfl⟩
abbrev main_while0b_v162 : Ref sig .tc := ⟨.hbm, 251, rfl⟩
abbrev main_while0b_v163 : Ref sig .tc := ⟨.hbm, 252, rfl⟩
abbrev main_while0b_v164 : Ref sig .tc := ⟨.hbm, 253, rfl⟩
abbrev main_while0b_v165 : Ref sig .tc := ⟨.hbm, 254, rfl⟩
abbrev main_while0b_v166 : Ref sig .tc := ⟨.hbm, 255, rfl⟩
abbrev main_while0b_v167 : Ref sig .tc := ⟨.hbm, 256, rfl⟩
abbrev main_while0b_v168 : Ref sig .tc := ⟨.hbm, 257, rfl⟩
abbrev main_while0b_v169 : Ref sig .tc := ⟨.hbm, 258, rfl⟩
abbrev main_while0b_v170 : Ref sig .tc := ⟨.hbm, 259, rfl⟩
abbrev main_while0b_v171 : Ref sig .tc := ⟨.hbm, 260, rfl⟩
abbrev main_while0b_v172 : Ref sig .tc := ⟨.hbm, 261, rfl⟩
abbrev main_while0b_v173 : Ref sig .tc := ⟨.hbm, 262, rfl⟩
abbrev main_while0b_v174 : Ref sig .tc := ⟨.hbm, 263, rfl⟩
abbrev main_while0b_v175 : Ref sig .tc := ⟨.hbm, 264, rfl⟩
abbrev main_while0b_v176 : Ref sig .tc := ⟨.hbm, 265, rfl⟩
abbrev main_while0b_v177 : Ref sig .tc := ⟨.hbm, 266, rfl⟩
abbrev main_while0b_v178 : Ref sig .tc := ⟨.hbm, 267, rfl⟩
abbrev main_while0b_v179 : Ref sig .tc := ⟨.hbm, 268, rfl⟩
abbrev main_while0b_v180 : Ref sig .tc := ⟨.hbm, 269, rfl⟩
abbrev main_while0b_v181 : Ref sig .tc := ⟨.hbm, 270, rfl⟩
abbrev main_while0b_v182 : Ref sig .tc := ⟨.hbm, 271, rfl⟩
abbrev main_while0b_v183 : Ref sig .tc := ⟨.hbm, 272, rfl⟩
abbrev main_while0b_v184 : Ref sig .tc := ⟨.hbm, 273, rfl⟩
abbrev main_while0b_cst_29 : Ref sig .tc := ⟨.hbm, 274, rfl⟩
abbrev main_while0b_v185 : Ref sig .tc := ⟨.hbm, 275, rfl⟩
abbrev main_while0b_v186 : Ref sig .tc := ⟨.hbm, 276, rfl⟩
abbrev main_while0b_v187 : Ref sig .tc := ⟨.hbm, 277, rfl⟩
abbrev main_while0b_cst_30 : Ref sig .tc := ⟨.hbm, 278, rfl⟩
abbrev main_while0b_v188 : Ref sig .tc := ⟨.hbm, 279, rfl⟩
abbrev main_while0b_v189 : Ref sig .tc := ⟨.hbm, 280, rfl⟩
abbrev main_while0b_cst_31 : Ref sig .tc := ⟨.hbm, 281, rfl⟩
abbrev main_while0b_call9_v0 : Ref sig .tc := ⟨.hbm, 282, rfl⟩
abbrev main_while0b_call9_v1 : Ref sig .tc := ⟨.hbm, 283, rfl⟩
abbrev main_while0b_call9_v2 : Ref sig .tc := ⟨.hbm, 284, rfl⟩
abbrev main_while0b_v190 : Ref sig .tc := ⟨.hbm, 285, rfl⟩
abbrev main_while0b_v191 : Ref sig .tc := ⟨.hbm, 286, rfl⟩
abbrev main_while0b_v192 : Ref sig .tc := ⟨.hbm, 287, rfl⟩
abbrev main_while0b_v193 : Ref sig .tc := ⟨.hbm, 288, rfl⟩
abbrev main_while0b_v194 : Ref sig .tc := ⟨.hbm, 289, rfl⟩
abbrev main_while0b_v195 : Ref sig .tc := ⟨.hbm, 290, rfl⟩
abbrev main_while0b_v196 : Ref sig .tc := ⟨.hbm, 291, rfl⟩
abbrev main_while0b_cst_32 : Ref sig .tc := ⟨.hbm, 292, rfl⟩
abbrev main_while0b_call10_v0 : Ref sig .tc := ⟨.hbm, 293, rfl⟩
abbrev main_while0b_call10_v1 : Ref sig .tc := ⟨.hbm, 294, rfl⟩
abbrev main_while0b_call10_v2 : Ref sig .tc := ⟨.hbm, 295, rfl⟩
abbrev main_while0b_v197 : Ref sig .tc := ⟨.hbm, 296, rfl⟩
abbrev main_while0b_call11_v0 : Ref sig .tc := ⟨.hbm, 297, rfl⟩
abbrev main_while0b_call11_c : Ref sig .tc := ⟨.hbm, 298, rfl⟩
abbrev main_while0b_v198 : Ref sig .tc := ⟨.hbm, 299, rfl⟩
abbrev main_while0b_call12_v0 : Ref sig .tc := ⟨.hbm, 300, rfl⟩
abbrev main_while0b_call12_c : Ref sig .tc := ⟨.hbm, 301, rfl⟩
abbrev main_while0b_v199 : Ref sig .tc := ⟨.hbm, 302, rfl⟩
abbrev main_while0b_c_33 : Ref sig .tc := ⟨.hbm, 303, rfl⟩
abbrev main_while0b_v200 : Ref sig .tc := ⟨.hbm, 304, rfl⟩
abbrev main_cst_16 : Ref sig .tc := ⟨.hbm, 305, rfl⟩
abbrev main_v82 : Ref sig .tc := ⟨.hbm, 306, rfl⟩
abbrev main_v83 : Ref sig .tc := ⟨.hbm, 307, rfl⟩
abbrev main_call13_c : Ref sig .tc := ⟨.hbm, 308, rfl⟩
abbrev main_call13_v0 : Ref sig .tc := ⟨.hbm, 309, rfl⟩
abbrev main_call13_v1 : Ref sig .tc := ⟨.hbm, 310, rfl⟩
abbrev main_call13_c_0 : Ref sig .tc := ⟨.hbm, 311, rfl⟩
abbrev main_call13_v2 : Ref sig .tc := ⟨.hbm, 312, rfl⟩
abbrev main_call13_v3 : Ref sig .tc := ⟨.hbm, 313, rfl⟩
abbrev main_call13_v4 : Ref sig .tc := ⟨.hbm, 314, rfl⟩
abbrev main_call13_v5 : Ref sig .tc := ⟨.hbm, 315, rfl⟩
abbrev main_call13_v6 : Ref sig .tc := ⟨.hbm, 316, rfl⟩
abbrev main_call13_c_1 : Ref sig .tc := ⟨.hbm, 317, rfl⟩
abbrev main_call13_c_2 : Ref sig .tc := ⟨.hbm, 318, rfl⟩
abbrev main_call13_v7 : Ref sig .tc := ⟨.hbm, 319, rfl⟩
abbrev main_call13_v8 : Ref sig .tc := ⟨.hbm, 320, rfl⟩
abbrev main_call13_v9 : Ref sig .tc := ⟨.hbm, 321, rfl⟩
abbrev main_call13_v10 : Ref sig .tc := ⟨.hbm, 322, rfl⟩
abbrev main_call13_v11 : Ref sig .tc := ⟨.hbm, 323, rfl⟩
abbrev main_call13_v12 : Ref sig .tc := ⟨.hbm, 324, rfl⟩
abbrev main_call13_c_3 : Ref sig .tc := ⟨.hbm, 325, rfl⟩
abbrev main_call13_v13 : Ref sig .tc := ⟨.hbm, 326, rfl⟩
abbrev main_call13_v14 : Ref sig .tc := ⟨.hbm, 327, rfl⟩
abbrev main_call13_v15 : Ref sig .tc := ⟨.hbm, 328, rfl⟩
abbrev main_call13_cst : Ref sig .tc := ⟨.hbm, 329, rfl⟩
abbrev main_call13_v16 : Ref sig .tc := ⟨.hbm, 330, rfl⟩
abbrev main_v84 : Ref sig .tc := ⟨.hbm, 331, rfl⟩
abbrev main_cst_17 : Ref sig .tc := ⟨.hbm, 332, rfl⟩
abbrev main_cst_18 : Ref sig .tc := ⟨.hbm, 333, rfl⟩
abbrev main_call14_v0 : Ref sig .tc := ⟨.hbm, 334, rfl⟩
abbrev main_call14_v1 : Ref sig .tc := ⟨.hbm, 335, rfl⟩
abbrev main_call14_v2 : Ref sig .tc := ⟨.hbm, 336, rfl⟩
abbrev main_call14_v3 : Ref sig .tc := ⟨.hbm, 337, rfl⟩
abbrev main_call14_v4 : Ref sig .tc := ⟨.hbm, 338, rfl⟩
abbrev main_v85 : Ref sig .tc := ⟨.hbm, 339, rfl⟩
abbrev main_v86 : Ref sig .tc := ⟨.hbm, 340, rfl⟩
abbrev main_v87 : Ref sig .tc := ⟨.hbm, 341, rfl⟩
abbrev main_v88 : Ref sig .tc := ⟨.hbm, 342, rfl⟩
abbrev main_v89 : Ref sig .tc := ⟨.hbm, 343, rfl⟩
abbrev main_v90 : Ref sig .tc := ⟨.hbm, 344, rfl⟩
abbrev main_v91 : Ref sig .tc := ⟨.hbm, 345, rfl⟩
abbrev main_v92 : Ref sig .tc := ⟨.hbm, 346, rfl⟩
abbrev main_v93 : Ref sig .tc := ⟨.hbm, 347, rfl⟩
abbrev main_v94 : Ref sig .tc := ⟨.hbm, 348, rfl⟩
abbrev main_v95 : Ref sig .tc := ⟨.hbm, 349, rfl⟩
abbrev main_v96 : Ref sig .tc := ⟨.hbm, 350, rfl⟩
abbrev main_v97 : Ref sig .tc := ⟨.hbm, 351, rfl⟩
abbrev main_v98 : Ref sig .tc := ⟨.hbm, 352, rfl⟩
abbrev main_v99 : Ref sig .tc := ⟨.hbm, 353, rfl⟩
abbrev main_v100 : Ref sig .tc := ⟨.hbm, 354, rfl⟩
abbrev main_v101 : Ref sig .tc := ⟨.hbm, 355, rfl⟩
abbrev main_v102 : Ref sig .tc := ⟨.hbm, 356, rfl⟩
abbrev main_v103 : Ref sig .tc := ⟨.hbm, 357, rfl⟩
abbrev main_v104 : Ref sig .tc := ⟨.hbm, 358, rfl⟩
abbrev main_v105 : Ref sig .tc := ⟨.hbm, 359, rfl⟩
abbrev main_v106 : Ref sig .tc := ⟨.hbm, 360, rfl⟩
abbrev main_v107 : Ref sig .tc := ⟨.hbm, 361, rfl⟩
abbrev main_call15_c : Ref sig .tc := ⟨.hbm, 362, rfl⟩
abbrev main_call15_v0 : Ref sig .tc := ⟨.hbm, 363, rfl⟩
abbrev main_call15_v1 : Ref sig .tc := ⟨.hbm, 364, rfl⟩
abbrev main_call15_c_0 : Ref sig .tc := ⟨.hbm, 365, rfl⟩
abbrev main_call15_v2 : Ref sig .tc := ⟨.hbm, 366, rfl⟩
abbrev main_call15_v3 : Ref sig .tc := ⟨.hbm, 367, rfl⟩
abbrev main_call15_v4 : Ref sig .tc := ⟨.hbm, 368, rfl⟩
abbrev main_call15_v5 : Ref sig .tc := ⟨.hbm, 369, rfl⟩
abbrev main_call15_v6 : Ref sig .tc := ⟨.hbm, 370, rfl⟩
abbrev main_call15_c_1 : Ref sig .tc := ⟨.hbm, 371, rfl⟩
abbrev main_call15_c_2 : Ref sig .tc := ⟨.hbm, 372, rfl⟩
abbrev main_call15_v7 : Ref sig .tc := ⟨.hbm, 373, rfl⟩
abbrev main_call15_v8 : Ref sig .tc := ⟨.hbm, 374, rfl⟩
abbrev main_call15_v9 : Ref sig .tc := ⟨.hbm, 375, rfl⟩
abbrev main_call15_v10 : Ref sig .tc := ⟨.hbm, 376, rfl⟩
abbrev main_call15_v11 : Ref sig .tc := ⟨.hbm, 377, rfl⟩
abbrev main_call15_v12 : Ref sig .tc := ⟨.hbm, 378, rfl⟩
abbrev main_call15_c_3 : Ref sig .tc := ⟨.hbm, 379, rfl⟩
abbrev main_call15_v13 : Ref sig .tc := ⟨.hbm, 380, rfl⟩
abbrev main_call15_v14 : Ref sig .tc := ⟨.hbm, 381, rfl⟩
abbrev main_call15_c_4 : Ref sig .tc := ⟨.hbm, 382, rfl⟩
abbrev main_call15_v15 : Ref sig .tc := ⟨.hbm, 383, rfl⟩
abbrev main_v108 : Ref sig .tc := ⟨.hbm, 384, rfl⟩
abbrev main_v109 : Ref sig .tc := ⟨.hbm, 385, rfl⟩
abbrev main_cst_19 : Ref sig .tc := ⟨.hbm, 386, rfl⟩
abbrev main_v110 : Ref sig .tc := ⟨.hbm, 387, rfl⟩
abbrev main_v111 : Ref sig .tc := ⟨.hbm, 388, rfl⟩
abbrev main_cst_20 : Ref sig .tc := ⟨.hbm, 389, rfl⟩
abbrev main_v112 : Ref sig .tc := ⟨.hbm, 390, rfl⟩
abbrev main_v113 : Ref sig .tc := ⟨.hbm, 391, rfl⟩
abbrev main_v114 : Ref sig .tc := ⟨.hbm, 392, rfl⟩
abbrev main_v115 : Ref sig .tc := ⟨.hbm, 393, rfl⟩
abbrev main_v116 : Ref sig .tc := ⟨.hbm, 394, rfl⟩
abbrev main_v117 : Ref sig .tc := ⟨.hbm, 395, rfl⟩
abbrev main_v118 : Ref sig .tc := ⟨.hbm, 396, rfl⟩
abbrev main_v119 : Ref sig .tc := ⟨.hbm, 397, rfl⟩
abbrev main_v120 : Ref sig .tc := ⟨.hbm, 398, rfl⟩
abbrev main_v121 : Ref sig .tc := ⟨.hbm, 399, rfl⟩
abbrev main_v122 : Ref sig .tc := ⟨.hbm, 400, rfl⟩

abbrev nD : Nat := 1
abbrev τ : Topo := Topo.v7x

variable {F : FTy → Type} [FloatOps F]

abbrev main_while0_count : Scf.Loop 32 := ⟨0#32, 100#32, 1#32⟩
-- ==== Proof.KernelIdealRun.lean ====
/- The run of the program KernelIdeal: its two kernels among the host's stretches. Each kernel's body leaves its inputs'
   buffers as they were and its outputs' at a function of the input blocks (the second kernel's selection loop is a fold);
   the buffers at every boundary of @main are a fold from the launch memory; every execution ends with every buffer that
   outlives the kernels at the last boundary's contents and every counter at zero. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Prf

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- what a kernel's buffers hold when it is entered
variable (V : (c : Dev nD) → (b : Ref sig .tc) → Buf (Elt F) ((c : Thread nD τ).loc b))

/-! # The first kernel -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A rectangle the body reads or writes: a whole buffer. -/
abbrev r0_0 : Rect S1x4000x64 := Rect.unit (s := S1x4000x64) ![0, 0, 0] S1x4000x64.size inb_S1x4000x64_S1x4000x64_0_0_0
/-- A rectangle the body reads or writes: a whole buffer. -/
abbrev r0_1 : Rect S64x90 := Rect.unit (s := S64x90) ![0, 0] S64x90.size inb_S64x90_S64x90_0_0
/-- A rectangle the body reads or writes: a whole buffer. -/
abbrev r0_2 : Rect S1x4000x90 := Rect.unit (s := S1x4000x90) ![0, 0, 0] S1x4000x90.size inb_S1x4000x90_S1x4000x90_0_0_0
/-- A rectangle the body reads or writes: a whole buffer. -/
abbrev r0_3 : Rect S64x4 := Rect.unit (s := S64x4) ![0, 0] S64x4.size inb_S64x4_S64x4_0_0
/-- A rectangle the body reads or writes: a whole buffer. -/
abbrev r0_4 : Rect S1x4000x4 := Rect.unit (s := S1x4000x4) ![0, 0, 0] S1x4000x4.size inb_S1x4000x4_S1x4000x4_0_0_0

/-! ## What the body leaves in each output window's buffer -/

/-- Window 3's staging buffer after the body, from the input windows' blocks: its 1 store as pieces, LAST
    FIRST (Lib/Pipeline/FrameBody.lean `View.canon`; the payloads are the skeleton's). -/
def out0_3 (x0 : Vec F S1x4000x64 .f32) (x1 : Vec F S64x90 .f32) (x2 : Vec F S64x4 .f32) : Vec F S1x4000x90 .f32 :=
  View.canon [⟨r0_2, k0_pay2 (View.ld x0 r0_0) (View.ld x1 r0_1)⟩]

/-- Its stores tile the buffer (checked by evaluation), so they cover it. -/
theorem cover0_3 (p0 : Vec F S1x4000x90 .f32) (y : S1x4000x90.Idx) :
    ∃ pc ∈ ([⟨r0_2, p0⟩] : List (View.Piece (Elt F) S1x4000x90 .f32)), y ∈ pc.1.set :=
  View.cover_of_tiled [⟨r0_2, p0⟩] S1x4000x90.size (by rfl) y

/-- Window 4's staging buffer after the body, from the input windows' blocks: its 1 store as pieces, LAST
    FIRST (Lib/Pipeline/FrameBody.lean `View.canon`; the payloads are the skeleton's). -/
def out0_4 (x0 : Vec F S1x4000x64 .f32) (x1 : Vec F S64x90 .f32) (x2 : Vec F S64x4 .f32) : Vec F S1x4000x4 .f32 :=
  View.canon [⟨r0_4, k0_pay3 (View.ld x0 r0_0) (View.ld x2 r0_3)⟩]

/-- Its stores tile the buffer (checked by evaluation), so they cover it. -/
theorem cover0_4 (p0 : Vec F S1x4000x4 .f32) (y : S1x4000x4.Idx) :
    ∃ pc ∈ ([⟨r0_4, p0⟩] : List (View.Piece (Elt F) S1x4000x4 .f32)), y ∈ pc.1.set :=
  View.cover_of_tiled [⟨r0_4, p0⟩] S1x4000x4.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel0 (c : Dev nD) (E : Set ℕ) (i : grid0.Coords) (arg2 : Memref sig .tc .vmem S1x4000x64 .f32) (harg2 : arg2.IsWhole) (arg3 : Memref sig .tc .vmem S64x90 .f32) (harg3 : arg3.IsWhole) (arg4 : Memref sig .tc .vmem S64x4 .f32) (harg4 : arg4.IsWhole) (arg5 : Memref sig .tc .vmem S1x4000x90 .f32) (harg5 : arg5.IsWhole) (arg6 : Memref sig .tc .vmem S1x4000x4 .f32) (harg6 : arg6.IsWhole)
    (x0 : Vec F S1x4000x64 .f32) (x1 : Vec F S64x90 .f32) (x2 : Vec F S64x4 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2)) -∗ K ⟨⟩))
      ⊢ wp frame (wpE (defs₀ (F := F)) Variants.none c none) E (cc0__heads_body i arg2 harg2 arg3 harg3 arg4 harg4 arg5 harg5 arg6 harg6) K := by
  simp only [cc0__heads_body_eq_skeleton]; unfold cc0__heads_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents: a region record cites
    this for its arrays; `V` is the fold through @main up to the region's entry. -/
theorem A_eq0 (c : Dev nD) (w : Fin cfg0.W) : (dat0 V c).A w = V c (Pipeline.arrRef spec0 w) := by
  dsimp only [dat0]

/-- What the body leaves, window by window (Lib/Pipeline.lean `Dat`). -/
theorem after0_0 (c : Dev nD) (t : Fin cfg0.N) : (dat0 V c).after 0 t = iblk0 V c 0 t := by dsimp only [dat0]
/-- The body of kernel 0 leaves window 1's buffer at the stated contents. -/
theorem after0_1 (c : Dev nD) (t : Fin cfg0.N) : (dat0 V c).after 1 t = iblk0 V c 1 t := by dsimp only [dat0]
/-- The body of kernel 0 leaves window 2's buffer at the stated contents. -/
theorem after0_2 (c : Dev nD) (t : Fin cfg0.N) : (dat0 V c).after 2 t = iblk0 V c 2 t := by dsimp only [dat0]
/-- The body of kernel 0 leaves window 3's buffer at the stated contents. -/
theorem after0_3 (c : Dev nD) (t : Fin cfg0.N) : (dat0 V c).after 3 t = out0_3 (iblk0 V c 0 t) (iblk0 V c 1 t) (iblk0 V c 2 t) := by dsimp only [dat0]
/-- The body of kernel 0 leaves window 4's buffer at the stated contents. -/
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- When the body of kernel 0 starts, input window 1's buffer holds its block. -/
theorem before0_1 (c : Dev nD) (t : Fin cfg0.N) (d) : (dat0 V c).before 1 t d = iblk0 V c 1 t :=
  before0_1_of V (dat0 V c) (A_eq0 V c 1) (after0_1 V c) t d
/-- When the body of kernel 0 starts, input window 2's buffer holds its block. -/
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # The second kernel -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A rectangle the body reads or writes: a whole buffer. -/
abbrev r1_0 : Rect S8x1024 := Rect.unit (s := S8x1024) ![0, 0] S8x1024.size inb_S8x1024_S8x1024_0_0
/-- A rectangle the body reads or writes: a whole buffer. -/
abbrev r1_1 : Rect S8x128 := Rect.unit (s := S8x128) ![0, 0] S8x128.size inb_S8x128_S8x128_0_0

/-! ## The selection loop as a fold -/

/-- What the loop carries: the scores still in play and the six output tiles. -/
abbrev Carry (F : FTy → Type) : Type := FVec F S8x1024 .f32 × FVec F S8x128 .f32 × FVec F S8x128 .f32 × FVec F S8x128 .f32 × FVec F S8x128 .f32 × FVec F S8x128 .f32 × FVec F S8x128 .f32

/-- The lane numbers. -/
abbrev lanes : IVec S8x1024 32 := iota .tc S8x1024 32 [1] iota_S8x1024_d1_w32

/-- One trip of the loop, at loop word `w`, as a function of what it carries. -/
def nmsStep (x0 x1 x2 x3 x4 : Vec F S8x1024 .f32) (w : BitVec 32) (a : Carry F) : Carry F :=
  (k1_pay26 x0 x1 x2 x3 x4 a.1 (k1_pay2 a.1) (k1_pay3 lanes a.1) (k1_pay10 (k1_pay17 x0) (k1_pay21 x4) lanes a.1) (k1_pay11 (k1_pay18 x1) (k1_pay21 x4) lanes a.1) (k1_pay12 (k1_pay19 x2) (k1_pay21 x4) lanes a.1) (k1_pay13 (k1_pay20 x3) (k1_pay21 x4) lanes a.1) (k1_pay15 (k1_pay17 x0) (k1_pay21 x4) (k1_pay24 x0 x4) lanes a.1) (k1_pay16 (k1_pay18 x1) (k1_pay21 x4) lanes a.1),
    k1_pay28 a.2.1 w (k1_pay4 (k1_pay17 x0) lanes a.1),
    k1_pay29 a.2.2.1 w (k1_pay5 (k1_pay18 x1) lanes a.1),
    k1_pay30 a.2.2.2.1 w (k1_pay6 (k1_pay19 x2) lanes a.1),
    k1_pay31 a.2.2.2.2.1 w (k1_pay7 (k1_pay20 x3) lanes a.1),
    k1_pay32 a.2.2.2.2.2.1 w (k1_pay14 a.1),
    k1_pay33 a.2.2.2.2.2.2 w (k1_pay8 (k1_pay21 x4) lanes a.1))

/-- What the loop starts from. -/
def nmsInit (x5 : Vec F S8x1024 .f32) : Carry F :=
  (k1_pay22 x5, k1_pay25, k1_pay25, k1_pay25, k1_pay25, k1_pay25, k1_pay25)

/-- What the loop ends with: its trips folded from the start. -/
def nmsOut (x0 x1 x2 x3 x4 x5 : Vec F S8x1024 .f32) : Carry F :=
  Scf.fold (n := k1_t1_loop.trips) (fun k a => nmsStep x0 x1 x2 x3 x4 (Scf.iv 0#32 1#32 k) a) (nmsInit x5)

set_option maxRecDepth 65536 in
/-- The loop issues nothing, so it is the return of its fold. -/
theorem loop_eq (arg0 : Memref sig .tc .vmem S8x1024 .f32) (harg0 : arg0.IsWhole) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole)
    (x0 x1 x2 x3 x4 x5 : Vec F S8x1024 .f32) :
    Scf.Loop.for k1_t1_loop k1_t1_ok (k1_pay22 x5, k1_pay25 (F := F), k1_pay25 (F := F), k1_pay25 (F := F), k1_pay25 (F := F), k1_pay25 (F := F), k1_pay25 (F := F))
      (k1_t1_body arg0 harg0 arg1 harg1 arg2 harg2 arg3 harg3 arg4 harg4 arg5 harg5 arg6 harg6 arg7 harg7 arg8 harg8 arg9 harg9 arg10 harg10 arg11 harg11 x0 x1 x2 x3 x4 lanes)
    = .ret (nmsOut x0 x1 x2 x3 x4 x5) :=
  Scf.for_pure _ _ _ _ _ _ (fun k a => nmsStep x0 x1 x2 x3 x4 (Scf.iv 0#32 1#32 k) a) fun k acc => by
    obtain ⟨a0, a1, a2, a3, a4, a5, a6⟩ := acc
    unfold k1_t1_body
    rw [k1_part1_eq_skeleton]
    rfl

/-! ## What the body leaves in each output window's buffer -/

/-- Window 6's staging buffer after the body, from the input windows' blocks: its 1 store as pieces, LAST
    FIRST (Lib/Pipeline/FrameBody.lean `View.canon`; the payloads are the skeleton's). -/
def out1_6 (x0 : Vec F S8x1024 .f32) (x1 : Vec F S8x1024 .f32) (x2 : Vec F S8x1024 .f32) (x3 : Vec F S8x1024 .f32) (x4 : Vec F S8x1024 .f32) (x5 : Vec F S8x1024 .f32) : Vec F S8x128 .f32 :=
  View.canon [⟨r1_1, (nmsOut (View.ld x0 r1_0) (View.ld x1 r1_0) (View.ld x2 r1_0) (View.ld x3 r1_0) (View.ld x4 r1_0) (View.ld x5 r1_0)).2.1⟩]

/-- Its stores tile the buffer (checked by evaluation), so they cover it. -/
theorem cover1_6 (p0 : Vec F S8x128 .f32) (y : S8x128.Idx) :
    ∃ pc ∈ ([⟨r1_1, p0⟩] : List (View.Piece (Elt F) S8x128 .f32)), y ∈ pc.1.set :=
  View.cover_of_tiled [⟨r1_1, p0⟩] S8x128.size (by rfl) y

/-- Window 7's staging buffer after the body, from the input windows' blocks: its 1 store as pieces, LAST
    FIRST (Lib/Pipeline/FrameBody.lean `View.canon`; the payloads are the skeleton's). -/
def out1_7 (x0 : Vec F S8x1024 .f32) (x1 : Vec F S8x1024 .f32) (x2 : Vec F S8x1024 .f32) (x3 : Vec F S8x1024 .f32) (x4 : Vec F S8x1024 .f32) (x5 : Vec F S8x1024 .f32) : Vec F S8x128 .f32 :=
  View.canon [⟨r1_1, (nmsOut (View.ld x0 r1_0) (View.ld x1 r1_0) (View.ld x2 r1_0) (View.ld x3 r1_0) (View.ld x4 r1_0) (View.ld x5 r1_0)).2.2.1⟩]

/-- Its stores tile the buffer (checked by evaluation), so they cover it. -/
theorem cover1_7 (p0 : Vec F S8x128 .f32) (y : S8x128.Idx) :
    ∃ pc ∈ ([⟨r1_1, p0⟩] : List (View.Piece (Elt F) S8x128 .f32)), y ∈ pc.1.set :=
  View.cover_of_tiled [⟨r1_1, p0⟩] S8x128.size (by rfl) y

/-- Window 8's staging buffer after the body, from the input windows' blocks: its 1 store as pieces, LAST
    FIRST (Lib/Pipeline/FrameBody.lean `View.canon`; the payloads are the skeleton's). -/
def out1_8 (x0 : Vec F S8x1024 .f32) (x1 : Vec F S8x1024 .f32) (x2 : Vec F S8x1024 .f32) (x3 : Vec F S8x1024 .f32) (x4 : Vec F S8x1024 .f32) (x5 : Vec F S8x1024 .f32) : Vec F S8x128 .f32 :=
  View.canon [⟨r1_1, (nmsOut (View.ld x0 r1_0) (View.ld x1 r1_0) (View.ld x2 r1_0) (View.ld x3 r1_0) (View.ld x4 r1_0) (View.ld x5 r1_0)).2.2.2.1⟩]

/-- Its stores tile the buffer (checked by evaluation), so they cover it. -/
theorem cover1_8 (p0 : Vec F S8x128 .f32) (y : S8x128.Idx) :
    ∃ pc ∈ ([⟨r1_1, p0⟩] : List (View.Piece (Elt F) S8x128 .f32)), y ∈ pc.1.set :=
  View.cover_of_tiled [⟨r1_1, p0⟩] S8x128.size (by rfl) y

/-- Window 9's staging buffer after the body, from the input windows' blocks: its 1 store as pieces, LAST
    FIRST (Lib/Pipeline/FrameBody.lean `View.canon`; the payloads are the skeleton's). -/
def out1_9 (x0 : Vec F S8x1024 .f32) (x1 : Vec F S8x1024 .f32) (x2 : Vec F S8x1024 .f32) (x3 : Vec F S8x1024 .f32) (x4 : Vec F S8x1024 .f32) (x5 : Vec F S8x1024 .f32) : Vec F S8x128 .f32 :=
  View.canon [⟨r1_1, (nmsOut (View.ld x0 r1_0) (View.ld x1 r1_0) (View.ld x2 r1_0) (View.ld x3 r1_0) (View.ld x4 r1_0) (View.ld x5 r1_0)).2.2.2.2.1⟩]

/-- Its stores tile the buffer (checked by evaluation), so they cover it. -/
theorem cover1_9 (p0 : Vec F S8x128 .f32) (y : S8x128.Idx) :
    ∃ pc ∈ ([⟨r1_1, p0⟩] : List (View.Piece (Elt F) S8x128 .f32)), y ∈ pc.1.set :=
  View.cover_of_tiled [⟨r1_1, p0⟩] S8x128.size (by rfl) y

/-- Window 10's staging buffer after the body, from the input windows' blocks: its 1 store as pieces, LAST
    FIRST (Lib/Pipeline/FrameBody.lean `View.canon`; the payloads are the skeleton's). -/
def out1_10 (x0 : Vec F S8x1024 .f32) (x1 : Vec F S8x1024 .f32) (x2 : Vec F S8x1024 .f32) (x3 : Vec F S8x1024 .f32) (x4 : Vec F S8x1024 .f32) (x5 : Vec F S8x1024 .f32) : Vec F S8x128 .f32 :=
  View.canon [⟨r1_1, (nmsOut (View.ld x0 r1_0) (View.ld x1 r1_0) (View.ld x2 r1_0) (View.ld x3 r1_0) (View.ld x4 r1_0) (View.ld x5 r1_0)).2.2.2.2.2.1⟩]

/-- Its stores tile the buffer (checked by evaluation), so they cover it. -/
theorem cover1_10 (p0 : Vec F S8x128 .f32) (y : S8x128.Idx) :
    ∃ pc ∈ ([⟨r1_1, p0⟩] : List (View.Piece (Elt F) S8x128 .f32)), y ∈ pc.1.set :=
  View.cover_of_tiled [⟨r1_1, p0⟩] S8x128.size (by rfl) y

/-- Window 11's staging buffer after the body, from the input windows' blocks: its 1 store as pieces, LAST
    FIRST (Lib/Pipeline/FrameBody.lean `View.canon`; the payloads are the skeleton's). -/
def out1_11 (x0 : Vec F S8x1024 .f32) (x1 : Vec F S8x1024 .f32) (x2 : Vec F S8x1024 .f32) (x3 : Vec F S8x1024 .f32) (x4 : Vec F S8x1024 .f32) (x5 : Vec F S8x1024 .f32) : Vec F S8x128 .f32 :=
  View.canon [⟨r1_1, (nmsOut (View.ld x0 r1_0) (View.ld x1 r1_0) (View.ld x2 r1_0) (View.ld x3 r1_0) (View.ld x4 r1_0) (View.ld x5 r1_0)).2.2.2.2.2.2⟩]

/-- Its stores tile the buffer (checked by evaluation), so they cover it. -/
theorem cover1_11 (p0 : Vec F S8x128 .f32) (y : S8x128.Idx) :
    ∃ pc ∈ ([⟨r1_1, p0⟩] : List (View.Piece (Elt F) S8x128 .f32)), y ∈ pc.1.set :=
  View.cover_of_tiled [⟨r1_1, p0⟩] S8x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`*_eq_skeleton`), which `sl_exec` runs (Lib/Exec.lean), through every part call. -/
theorem sound_kernel1 (c : Dev nD) (E : Set ℕ) (arg0 : Memref sig .tc .vmem S8x1024 .f32) (harg0 : arg0.IsWhole) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole)
    (x0 : Vec F S8x1024 .f32) (x1 : Vec F S8x1024 .f32) (x2 : Vec F S8x1024 .f32) (x3 : Vec F S8x1024 .f32) (x4 : Vec F S8x1024 .f32) (x5 : Vec F S8x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5) ∗ owns (c : Thread nD τ) arg7 fullShare (out1_7 x0 x1 x2 x3 x4 x5) ∗ owns (c : Thread nD τ) arg8 fullShare (out1_8 x0 x1 x2 x3 x4 x5) ∗ owns (c : Thread nD τ) arg9 fullShare (out1_9 x0 x1 x2 x3 x4 x5) ∗ owns (c : Thread nD τ) arg10 fullShare (out1_10 x0 x1 x2 x3 x4 x5) ∗ owns (c : Thread nD τ) arg11 fullShare (out1_11 x0 x1 x2 x3 x4 x5)) -∗ K ⟨⟩))
      ⊢ wp frame (wpE (defs₀ (F := F)) Variants.none c none) E (cc1__nms_body arg0 harg0 arg1 harg1 arg2 harg2 arg3 harg3 arg4 harg4 arg5 harg5 arg6 harg6 arg7 harg7 arg8 harg8 arg9 harg9 arg10 harg10 arg11 harg11) K := by
  simp only [cc1__nms_body_eq_skeleton]; unfold cc1__nms_body_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  rw [show sound_kernel1.sl.v21 = lanes from rfl, loop_eq]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  isplitl [H8]
  · iexists _; isplitr
    swap; · iexact H8
    ipureintro
    exact View.read_writes_eq_canon _ _ _ (cover1_8 _)
  isplitl [H9]
  · iexists _; isplitr
    swap; · iexact H9
    ipureintro
    exact View.read_writes_eq_canon _ _ _ (cover1_9 _)
  isplitl [H10]
  · iexists _; isplitr
    swap; · iexact H10
    ipureintro
    exact View.read_writes_eq_canon _ _ _ (cover1_10 _)
  iexists _; isplitr
  swap; · iexact H11
  ipureintro
  exact View.read_writes_eq_canon _ _ _ (cover1_11 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
    | ⟨9, _⟩ => out1_9 (iblk1 V c 0 t) (iblk1 V c 1 t) (iblk1 V c 2 t) (iblk1 V c 3 t) (iblk1 V c 4 t) (iblk1 V c 5 t)
    | ⟨10, _⟩ => out1_10 (iblk1 V c 0 t) (iblk1 V c 1 t) (iblk1 V c 2 t) (iblk1 V c 3 t) (iblk1 V c 4 t) (iblk1 V c 5 t)
    | ⟨11, _⟩ => out1_11 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents: a region record cites
    this for its arrays; `V` is the fold through @main up to the region's entry. -/
theorem A_eq1 (c : Dev nD) (w : Fin cfg1.W) : (dat1 V c).A w = V c (Pipeline.arrRef spec1 w) := by
  dsimp only [dat1]

/-- What the body leaves, window by window (Lib/Pipeline.lean `Dat`). -/
theorem after1_0 (c : Dev nD) (t : Fin cfg1.N) : (dat1 V c).after 0 t = iblk1 V c 0 t := by dsimp only [dat1]
/-- The body of kernel 1 leaves window 1's buffer at the stated contents. -/
theorem after1_1 (c : Dev nD) (t : Fin cfg1.N) : (dat1 V c).after 1 t = iblk1 V c 1 t := by dsimp only [dat1]
/-- The body of kernel 1 leaves window 2's buffer at the stated contents. -/
theorem after1_2 (c : Dev nD) (t : Fin cfg1.N) : (dat1 V c).after 2 t = iblk1 V c 2 t := by dsimp only [dat1]
/-- The body of kernel 1 leaves window 3's buffer at the stated contents. -/
theorem after1_3 (c : Dev nD) (t : Fin cfg1.N) : (dat1 V c).after 3 t = iblk1 V c 3 t := by dsimp only [dat1]
/-- The body of kernel 1 leaves window 4's buffer at the stated contents. -/
theorem after1_4 (c : Dev nD) (t : Fin cfg1.N) : (dat1 V c).after 4 t = iblk1 V c 4 t := by dsimp only [dat1]
/-- The body of kernel 1 leaves window 5's buffer at the stated contents. -/
theorem after1_5 (c : Dev nD) (t : Fin cfg1.N) : (dat1 V c).after 5 t = iblk1 V c 5 t := by dsimp only [dat1]
/-- The body of kernel 1 leaves window 6's buffer at the stated contents. -/
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
/-- The body of kernel 1 leaves window 7's buffer at the stated contents. -/
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
/-- The body of kernel 1 leaves window 8's buffer at the stated contents. -/
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]
/-- The body of kernel 1 leaves window 9's buffer at the stated contents. -/
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) := by dsimp only [dat1]
/-- The body of kernel 1 leaves window 10's buffer at the stated contents. -/
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) := by dsimp only [dat1]
/-- The body of kernel 1 leaves window 11's buffer at the stated contents. -/
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- When the body of kernel 1 starts, input window 1's buffer holds its block. -/
theorem before1_1 (c : Dev nD) (t : Fin cfg1.N) (d) : (dat1 V c).before 1 t d = iblk1 V c 1 t :=
  before1_1_of V (dat1 V c) (A_eq1 V c 1) (after1_1 V c) t d
/-- When the body of kernel 1 starts, input window 2's buffer holds its block. -/
theorem before1_2 (c : Dev nD) (t : Fin cfg1.N) (d) : (dat1 V c).before 2 t d = iblk1 V c 2 t :=
  before1_2_of V (dat1 V c) (A_eq1 V c 2) (after1_2 V c) t d
/-- When the body of kernel 1 starts, input window 3's buffer holds its block. -/
theorem before1_3 (c : Dev nD) (t : Fin cfg1.N) (d) : (dat1 V c).before 3 t d = iblk1 V c 3 t :=
  before1_3_of V (dat1 V c) (A_eq1 V c 3) (after1_3 V c) t d
/-- When the body of kernel 1 starts, input window 4's buffer holds its block. -/
theorem before1_4 (c : Dev nD) (t : Fin cfg1.N) (d) : (dat1 V c).before 4 t d = iblk1 V c 4 t :=
  before1_4_of V (dat1 V c) (A_eq1 V c 4) (after1_4 V c) t d
/-- When the body of kernel 1 starts, input window 5's buffer holds its block. -/
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions
/-! # The run -/

/-- @main's argument arrays. -/
abbrev argRefs : List (Ref sig .tc) := [main_arg0, main_arg1, main_arg2, main_arg3, main_arg4, main_arg5]

/-- The operations of `hostOps1` write no argument. -/
theorem hostOps1_args : ∀ a ∈ argRefs, a ∉ hostOps1_W := ListAll.forall_mem_of_all_decide (by decide +kernel)
/-- The operations of `hostOps1_1` write no argument. -/
theorem hostOps1_1_args : ∀ a ∈ argRefs, a ∉ hostOps1_1_W := ListAll.forall_mem_of_all_decide (by decide +kernel)
/-- The operations of `hostOps1_2` write no argument. -/
theorem hostOps1_2_args : ∀ a ∈ argRefs, a ∉ hostOps1_2_W := ListAll.forall_mem_of_all_decide (by decide +kernel)
/-- The operations of `hostOps1_3` write no argument. -/
theorem hostOps1_3_args : ∀ a ∈ argRefs, a ∉ hostOps1_3_W := ListAll.forall_mem_of_all_decide (by decide +kernel)
/-- The operations of `hostOps1_4` write no argument. -/
theorem hostOps1_4_args : ∀ a ∈ argRefs, a ∉ hostOps1_4_W := ListAll.forall_mem_of_all_decide (by decide +kernel)
/-- The operations of `hostOps1_5` write no argument. -/
theorem hostOps1_5_args : ∀ a ∈ argRefs, a ∉ hostOps1_5_W := ListAll.forall_mem_of_all_decide (by decide +kernel)
/-- The operations of `hostOps1_6` write no argument. -/
theorem hostOps1_6_args : ∀ a ∈ argRefs, a ∉ hostOps1_6_W := ListAll.forall_mem_of_all_decide (by decide +kernel)
/-- The operations of `hostOps1_7` write no argument. -/
theorem hostOps1_7_args : ∀ a ∈ argRefs, a ∉ hostOps1_7_W := ListAll.forall_mem_of_all_decide (by decide +kernel)
/-- The operations of `hostOps1_8` write no argument. -/
theorem hostOps1_8_args : ∀ a ∈ argRefs, a ∉ hostOps1_8_W := ListAll.forall_mem_of_all_decide (by decide +kernel)
/-- The operations of `hostOps1_9` write no argument. -/
theorem hostOps1_9_args : ∀ a ∈ argRefs, a ∉ hostOps1_9_W := ListAll.forall_mem_of_all_decide (by decide +kernel)
/-- The operations of `hostOps1_10` write no argument. -/
theorem hostOps1_10_args : ∀ a ∈ argRefs, a ∉ hostOps1_10_W := ListAll.forall_mem_of_all_decide (by decide +kernel)
/-- The operations of `hostOps1_11` write no argument. -/
theorem hostOps1_11_args : ∀ a ∈ argRefs, a ∉ hostOps1_11_W := ListAll.forall_mem_of_all_decide (by decide +kernel)
/-- The operations of `hostOps1_12` write no argument. -/
theorem hostOps1_12_args : ∀ a ∈ argRefs, a ∉ hostOps1_12_W := ListAll.forall_mem_of_all_decide (by decide +kernel)
/-- The operations of `hostOps1_13` write no argument. -/
theorem hostOps1_13_args : ∀ a ∈ argRefs, a ∉ hostOps1_13_W := ListAll.forall_mem_of_all_decide (by decide +kernel)
/-- The operations of `hostOps1_14` write no argument. -/
theorem hostOps1_14_args : ∀ a ∈ argRefs, a ∉ hostOps1_14_W := ListAll.forall_mem_of_all_decide (by decide +kernel)
/-- The operations of `hostOps1_15` write no argument. -/
theorem hostOps1_15_args : ∀ a ∈ argRefs, a ∉ hostOps1_15_W := ListAll.forall_mem_of_all_decide (by decide +kernel)
/-- The operations of `hostOps1_16` write no argument. -/
theorem hostOps1_16_args : ∀ a ∈ argRefs, a ∉ hostOps1_16_W := ListAll.forall_mem_of_all_decide (by decide +kernel)
/-- The operations of `hostOps1_17` write no argument. -/
theorem hostOps1_17_args : ∀ a ∈ argRefs, a ∉ hostOps1_17_W := ListAll.forall_mem_of_all_decide (by decide +kernel)
/-- The operations of `hostOps1_18` write no argument. -/
theorem hostOps1_18_args : ∀ a ∈ argRefs, a ∉ hostOps1_18_W := ListAll.forall_mem_of_all_decide (by decide +kernel)
/-- The operations of `hostOps1_19` write no argument. -/
theorem hostOps1_19_args : ∀ a ∈ argRefs, a ∉ hostOps1_19_W := ListAll.forall_mem_of_all_decide (by decide +kernel)
/-- The operations of `hostOps1_20` write no argument. -/
theorem hostOps1_20_args : ∀ a ∈ argRefs, a ∉ hostOps1_20_W := ListAll.forall_mem_of_all_decide (by decide +kernel)
/-- The operations of `hostOps1_21` write no argument. -/
theorem hostOps1_21_args : ∀ a ∈ argRefs, a ∉ hostOps1_21_W := ListAll.forall_mem_of_all_decide (by decide +kernel)
/-- The operations of `hostOps1_22` write no argument. -/
theorem hostOps1_22_args : ∀ a ∈ argRefs, a ∉ hostOps1_22_W := ListAll.forall_mem_of_all_decide (by decide +kernel)
/-- The operations of `hostOps2` write no argument. -/
theorem hostOps2_args : ∀ a ∈ argRefs, a ∉ hostOps2_W := ListAll.forall_mem_of_all_decide (by decide +kernel)
/-- The operations of `hostOps2_1` write no argument. -/
theorem hostOps2_1_args : ∀ a ∈ argRefs, a ∉ hostOps2_1_W := ListAll.forall_mem_of_all_decide (by decide +kernel)
/-- The operations of `hostOps2_2` write no argument. -/
theorem hostOps2_2_args : ∀ a ∈ argRefs, a ∉ hostOps2_2_W := ListAll.forall_mem_of_all_decide (by decide +kernel)
/-- The operations of `hostOps2_3` write no argument. -/
theorem hostOps2_3_args : ∀ a ∈ argRefs, a ∉ hostOps2_3_W := ListAll.forall_mem_of_all_decide (by decide +kernel)
/-- The operations of `hostOps2_4` write no argument. -/
theorem hostOps2_4_args : ∀ a ∈ argRefs, a ∉ hostOps2_4_W := ListAll.forall_mem_of_all_decide (by decide +kernel)
/-- The operations of `hostOps2_5` write no argument. -/
theorem hostOps2_5_args : ∀ a ∈ argRefs, a ∉ hostOps2_5_W := ListAll.forall_mem_of_all_decide (by decide +kernel)
/-- The operations of `hostOps2_6` write no argument. -/
theorem hostOps2_6_args : ∀ a ∈ argRefs, a ∉ hostOps2_6_W := ListAll.forall_mem_of_all_decide (by decide +kernel)
/-- The operations of `hostOps2_7` write no argument. -/
theorem hostOps2_7_args : ∀ a ∈ argRefs, a ∉ hostOps2_7_W := ListAll.forall_mem_of_all_decide (by decide +kernel)
/-- The operations of `hostOps2_8` write no argument. -/
theorem hostOps2_8_args : ∀ a ∈ argRefs, a ∉ hostOps2_8_W := ListAll.forall_mem_of_all_decide (by decide +kernel)

/-- Core `c`'s buffers at launch (region 0's entry). -/
abbrev W0 : Dev nD → Valuation τ sig (Elt F) := fun c b => (s₀ m ρ).mem ((c : Dev nD), b)
/-- At boundary 0 of the program every argument is as launched. -/
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
/-- At boundary 1 each of the kernel's arrays is at the contents that its last point leaves. -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- At boundary 1 a buffer that is none of the kernel's arrays is as it was before. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- At boundary 1 of the program every argument is as launched. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
/-- A buffer that is none of the kernel's arrays is the same before and after the kernel. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1`. -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
/-- At boundary 2 of the program every argument is as launched. -/
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- After `hostOps1_1`. -/
abbrev W3 : Dev nD → Valuation τ sig (Elt F) := fun c => StableHlo.after hostOps1_1 (W2 m ρ c)
/-- A reference `hostOps1_1` does not write keeps its contents across it. -/
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
/-- At boundary 3 of the program every argument is as launched. -/
theorem W3_args (c : Dev nD) : ∀ a ∈ argRefs, W3 m ρ c (Proc.devRef .tc a) = m ((c : Thread nD τ).loc a) :=
  fun a ha => (W3_of m ρ c a (hostOps1_1_args a ha)).trans (W2_args m ρ c a ha)
/-- After `hostOps1_2`. -/
abbrev W4 : Dev nD → Valuation τ sig (Elt F) := fun c => StableHlo.after hostOps1_2 (W3 m ρ c)
/-- A reference `hostOps1_2` does not write keeps its contents across it. -/
theorem W4_of (c : Dev nD) (r : Ref sig .tc) (h : r ∉ hostOps1_2_W) : W4 m ρ c (Proc.devRef .tc r) = W3 m ρ c (Proc.devRef .tc r) :=
  StableHlo.after_of_writes_sub hostOps1_2 _ hostOps1_2_writes h
/-- At boundary 4 of the program every argument is as launched. -/
theorem W4_args (c : Dev nD) : ∀ a ∈ argRefs, W4 m ρ c (Proc.devRef .tc a) = m ((c : Thread nD τ).loc a) :=
  fun a ha => (W4_of m ρ c a (hostOps1_2_args a ha)).trans (W3_args m ρ c a ha)
/-- After `hostOps1_3`. -/
abbrev W5 : Dev nD → Valuation τ sig (Elt F) := fun c => StableHlo.after hostOps1_3 (W4 m ρ c)
/-- A reference `hostOps1_3` does not write keeps its contents across it. -/
theorem W5_of (c : Dev nD) (r : Ref sig .tc) (h : r ∉ hostOps1_3_W) : W5 m ρ c (Proc.devRef .tc r) = W4 m ρ c (Proc.devRef .tc r) :=
  StableHlo.after_of_writes_sub hostOps1_3 _ hostOps1_3_writes h
/-- At boundary 5 of the program every argument is as launched. -/
theorem W5_args (c : Dev nD) : ∀ a ∈ argRefs, W5 m ρ c (Proc.devRef .tc a) = m ((c : Thread nD τ).loc a) :=
  fun a ha => (W5_of m ρ c a (hostOps1_3_args a ha)).trans (W4_args m ρ c a ha)
/-- After `hostOps1_4`. -/
abbrev W6 : Dev nD → Valuation τ sig (Elt F) := fun c => StableHlo.after hostOps1_4 (W5 m ρ c)
/-- A reference `hostOps1_4` does not write keeps its contents across it. -/
theorem W6_of (c : Dev nD) (r : Ref sig .tc) (h : r ∉ hostOps1_4_W) : W6 m ρ c (Proc.devRef .tc r) = W5 m ρ c (Proc.devRef .tc r) :=
  StableHlo.after_of_writes_sub hostOps1_4 _ hostOps1_4_writes h
/-- At boundary 6 of the program every argument is as launched. -/
theorem W6_args (c : Dev nD) : ∀ a ∈ argRefs, W6 m ρ c (Proc.devRef .tc a) = m ((c : Thread nD τ).loc a) :=
  fun a ha => (W6_of m ρ c a (hostOps1_4_args a ha)).trans (W5_args m ρ c a ha)
/-- After `hostOps1_5`. -/
abbrev W7 : Dev nD → Valuation τ sig (Elt F) := fun c => StableHlo.after hostOps1_5 (W6 m ρ c)
/-- A reference `hostOps1_5` does not write keeps its contents across it. -/
theorem W7_of (c : Dev nD) (r : Ref sig .tc) (h : r ∉ hostOps1_5_W) : W7 m ρ c (Proc.devRef .tc r) = W6 m ρ c (Proc.devRef .tc r) :=
  StableHlo.after_of_writes_sub hostOps1_5 _ hostOps1_5_writes h
/-- At boundary 7 of the program every argument is as launched. -/
theorem W7_args (c : Dev nD) : ∀ a ∈ argRefs, W7 m ρ c (Proc.devRef .tc a) = m ((c : Thread nD τ).loc a) :=
  fun a ha => (W7_of m ρ c a (hostOps1_5_args a ha)).trans (W6_args m ρ c a ha)
/-- After `hostOps1_6`. -/
abbrev W8 : Dev nD → Valuation τ sig (Elt F) := fun c => StableHlo.after hostOps1_6 (W7 m ρ c)
/-- A reference `hostOps1_6` does not write keeps its contents across it. -/
theorem W8_of (c : Dev nD) (r : Ref sig .tc) (h : r ∉ hostOps1_6_W) : W8 m ρ c (Proc.devRef .tc r) = W7 m ρ c (Proc.devRef .tc r) :=
  StableHlo.after_of_writes_sub hostOps1_6 _ hostOps1_6_writes h
/-- At boundary 8 of the program every argument is as launched. -/
theorem W8_args (c : Dev nD) : ∀ a ∈ argRefs, W8 m ρ c (Proc.devRef .tc a) = m ((c : Thread nD τ).loc a) :=
  fun a ha => (W8_of m ρ c a (hostOps1_6_args a ha)).trans (W7_args m ρ c a ha)
/-- After `hostOps1_7`. -/
abbrev W9 : Dev nD → Valuation τ sig (Elt F) := fun c => StableHlo.after hostOps1_7 (W8 m ρ c)
/-- A reference `hostOps1_7` does not write keeps its contents across it. -/
theorem W9_of (c : Dev nD) (r : Ref sig .tc) (h : r ∉ hostOps1_7_W) : W9 m ρ c (Proc.devRef .tc r) = W8 m ρ c (Proc.devRef .tc r) :=
  StableHlo.after_of_writes_sub hostOps1_7 _ hostOps1_7_writes h
/-- At boundary 9 of the program every argument is as launched. -/
theorem W9_args (c : Dev nD) : ∀ a ∈ argRefs, W9 m ρ c (Proc.devRef .tc a) = m ((c : Thread nD τ).loc a) :=
  fun a ha => (W9_of m ρ c a (hostOps1_7_args a ha)).trans (W8_args m ρ c a ha)
/-- After `hostOps1_8`. -/
abbrev W10 : Dev nD → Valuation τ sig (Elt F) := fun c => StableHlo.after hostOps1_8 (W9 m ρ c)
/-- A reference `hostOps1_8` does not write keeps its contents across it. -/
theorem W10_of (c : Dev nD) (r : Ref sig .tc) (h : r ∉ hostOps1_8_W) : W10 m ρ c (Proc.devRef .tc r) = W9 m ρ c (Proc.devRef .tc r) :=
  StableHlo.after_of_writes_sub hostOps1_8 _ hostOps1_8_writes h
/-- At boundary 10 of the program every argument is as launched. -/
theorem W10_args (c : Dev nD) : ∀ a ∈ argRefs, W10 m ρ c (Proc.devRef .tc a) = m ((c : Thread nD τ).loc a) :=
  fun a ha => (W10_of m ρ c a (hostOps1_8_args a ha)).trans (W9_args m ρ c a ha)
/-- After `hostOps1_9`. -/
abbrev W11 : Dev nD → Valuation τ sig (Elt F) := fun c => StableHlo.after hostOps1_9 (W10 m ρ c)
/-- A reference `hostOps1_9` does not write keeps its contents across it. -/
theorem W11_of (c : Dev nD) (r : Ref sig .tc) (h : r ∉ hostOps1_9_W) : W11 m ρ c (Proc.devRef .tc r) = W10 m ρ c (Proc.devRef .tc r) :=
  StableHlo.after_of_writes_sub hostOps1_9 _ hostOps1_9_writes h
/-- At boundary 11 of the program every argument is as launched. -/
theorem W11_args (c : Dev nD) : ∀ a ∈ argRefs, W11 m ρ c (Proc.devRef .tc a) = m ((c : Thread nD τ).loc a) :=
  fun a ha => (W11_of m ρ c a (hostOps1_9_args a ha)).trans (W10_args m ρ c a ha)
/-- After `hostOps1_10`. -/
abbrev W12 : Dev nD → Valuation τ sig (Elt F) := fun c => StableHlo.after hostOps1_10 (W11 m ρ c)
/-- A reference `hostOps1_10` does not write keeps its contents across it. -/
theorem W12_of (c : Dev nD) (r : Ref sig .tc) (h : r ∉ hostOps1_10_W) : W12 m ρ c (Proc.devRef .tc r) = W11 m ρ c (Proc.devRef .tc r) :=
  StableHlo.after_of_writes_sub hostOps1_10 _ hostOps1_10_writes h
/-- At boundary 12 of the program every argument is as launched. -/
theorem W12_args (c : Dev nD) : ∀ a ∈ argRefs, W12 m ρ c (Proc.devRef .tc a) = m ((c : Thread nD τ).loc a) :=
  fun a ha => (W12_of m ρ c a (hostOps1_10_args a ha)).trans (W11_args m ρ c a ha)
/-- After `hostOps1_11`. -/
abbrev W13 : Dev nD → Valuation τ sig (Elt F) := fun c => StableHlo.after hostOps1_11 (W12 m ρ c)
/-- A reference `hostOps1_11` does not write keeps its contents across it. -/
theorem W13_of (c : Dev nD) (r : Ref sig .tc) (h : r ∉ hostOps1_11_W) : W13 m ρ c (Proc.devRef .tc r) = W12 m ρ c (Proc.devRef .tc r) :=
  StableHlo.after_of_writes_sub hostOps1_11 _ hostOps1_11_writes h
/-- At boundary 13 of the program every argument is as launched. -/
theorem W13_args (c : Dev nD) : ∀ a ∈ argRefs, W13 m ρ c (Proc.devRef .tc a) = m ((c : Thread nD τ).loc a) :=
  fun a ha => (W13_of m ρ c a (hostOps1_11_args a ha)).trans (W12_args m ρ c a ha)
/-- After `hostOps1_12`. -/
abbrev W14 : Dev nD → Valuation τ sig (Elt F) := fun c => StableHlo.after hostOps1_12 (W13 m ρ c)
/-- A reference `hostOps1_12` does not write keeps its contents across it. -/
theorem W14_of (c : Dev nD) (r : Ref sig .tc) (h : r ∉ hostOps1_12_W) : W14 m ρ c (Proc.devRef .tc r) = W13 m ρ c (Proc.devRef .tc r) :=
  StableHlo.after_of_writes_sub hostOps1_12 _ hostOps1_12_writes h
/-- At boundary 14 of the program every argument is as launched. -/
theorem W14_args (c : Dev nD) : ∀ a ∈ argRefs, W14 m ρ c (Proc.devRef .tc a) = m ((c : Thread nD τ).loc a) :=
  fun a ha => (W14_of m ρ c a (hostOps1_12_args a ha)).trans (W13_args m ρ c a ha)
/-- After `hostOps1_13`. -/
abbrev W15 : Dev nD → Valuation τ sig (Elt F) := fun c => StableHlo.after hostOps1_13 (W14 m ρ c)
/-- A reference `hostOps1_13` does not write keeps its contents across it. -/
theorem W15_of (c : Dev nD) (r : Ref sig .tc) (h : r ∉ hostOps1_13_W) : W15 m ρ c (Proc.devRef .tc r) = W14 m ρ c (Proc.devRef .tc r) :=
  StableHlo.after_of_writes_sub hostOps1_13 _ hostOps1_13_writes h
/-- At boundary 15 of the program every argument is as launched. -/
theorem W15_args (c : Dev nD) : ∀ a ∈ argRefs, W15 m ρ c (Proc.devRef .tc a) = m ((c : Thread nD τ).loc a) :=
  fun a ha => (W15_of m ρ c a (hostOps1_13_args a ha)).trans (W14_args m ρ c a ha)
/-- After `hostOps1_14`. -/
abbrev W16 : Dev nD → Valuation τ sig (Elt F) := fun c => StableHlo.after hostOps1_14 (W15 m ρ c)
/-- A reference `hostOps1_14` does not write keeps its contents across it. -/
theorem W16_of (c : Dev nD) (r : Ref sig .tc) (h : r ∉ hostOps1_14_W) : W16 m ρ c (Proc.devRef .tc r) = W15 m ρ c (Proc.devRef .tc r) :=
  StableHlo.after_of_writes_sub hostOps1_14 _ hostOps1_14_writes h
/-- At boundary 16 of the program every argument is as launched. -/
theorem W16_args (c : Dev nD) : ∀ a ∈ argRefs, W16 m ρ c (Proc.devRef .tc a) = m ((c : Thread nD τ).loc a) :=
  fun a ha => (W16_of m ρ c a (hostOps1_14_args a ha)).trans (W15_args m ρ c a ha)
/-- After `hostOps1_15`. -/
abbrev W17 : Dev nD → Valuation τ sig (Elt F) := fun c => StableHlo.after hostOps1_15 (W16 m ρ c)
/-- A reference `hostOps1_15` does not write keeps its contents across it. -/
theorem W17_of (c : Dev nD) (r : Ref sig .tc) (h : r ∉ hostOps1_15_W) : W17 m ρ c (Proc.devRef .tc r) = W16 m ρ c (Proc.devRef .tc r) :=
  StableHlo.after_of_writes_sub hostOps1_15 _ hostOps1_15_writes h
/-- At boundary 17 of the program every argument is as launched. -/
theorem W17_args (c : Dev nD) : ∀ a ∈ argRefs, W17 m ρ c (Proc.devRef .tc a) = m ((c : Thread nD τ).loc a) :=
  fun a ha => (W17_of m ρ c a (hostOps1_15_args a ha)).trans (W16_args m ρ c a ha)
/-- After `hostOps1_16`. -/
abbrev W18 : Dev nD → Valuation τ sig (Elt F) := fun c => StableHlo.after hostOps1_16 (W17 m ρ c)
/-- A reference `hostOps1_16` does not write keeps its contents across it. -/
theorem W18_of (c : Dev nD) (r : Ref sig .tc) (h : r ∉ hostOps1_16_W) : W18 m ρ c (Proc.devRef .tc r) = W17 m ρ c (Proc.devRef .tc r) :=
  StableHlo.after_of_writes_sub hostOps1_16 _ hostOps1_16_writes h
/-- At boundary 18 of the program every argument is as launched. -/
theorem W18_args (c : Dev nD) : ∀ a ∈ argRefs, W18 m ρ c (Proc.devRef .tc a) = m ((c : Thread nD τ).loc a) :=
  fun a ha => (W18_of m ρ c a (hostOps1_16_args a ha)).trans (W17_args m ρ c a ha)
/-- After `hostOps1_17`. -/
abbrev W19 : Dev nD → Valuation τ sig (Elt F) := fun c => StableHlo.after hostOps1_17 (W18 m ρ c)
/-- A reference `hostOps1_17` does not write keeps its contents across it. -/
theorem W19_of (c : Dev nD) (r : Ref sig .tc) (h : r ∉ hostOps1_17_W) : W19 m ρ c (Proc.devRef .tc r) = W18 m ρ c (Proc.devRef .tc r) :=
  StableHlo.after_of_writes_sub hostOps1_17 _ hostOps1_17_writes h
/-- At boundary 19 of the program every argument is as launched. -/
theorem W19_args (c : Dev nD) : ∀ a ∈ argRefs, W19 m ρ c (Proc.devRef .tc a) = m ((c : Thread nD τ).loc a) :=
  fun a ha => (W19_of m ρ c a (hostOps1_17_args a ha)).trans (W18_args m ρ c a ha)
/-- After `hostOps1_18`. -/
abbrev W20 : Dev nD → Valuation τ sig (Elt F) := fun c => StableHlo.after hostOps1_18 (W19 m ρ c)
/-- A reference `hostOps1_18` does not write keeps its contents across it. -/
theorem W20_of (c : Dev nD) (r : Ref sig .tc) (h : r ∉ hostOps1_18_W) : W20 m ρ c (Proc.devRef .tc r) = W19 m ρ c (Proc.devRef .tc r) :=
  StableHlo.after_of_writes_sub hostOps1_18 _ hostOps1_18_writes h
/-- At boundary 20 of the program every argument is as launched. -/
theorem W20_args (c : Dev nD) : ∀ a ∈ argRefs, W20 m ρ c (Proc.devRef .tc a) = m ((c : Thread nD τ).loc a) :=
  fun a ha => (W20_of m ρ c a (hostOps1_18_args a ha)).trans (W19_args m ρ c a ha)
/-- After `hostOps1_19`. -/
abbrev W21 : Dev nD → Valuation τ sig (Elt F) := fun c => StableHlo.after hostOps1_19 (W20 m ρ c)
/-- A reference `hostOps1_19` does not write keeps its contents across it. -/
theorem W21_of (c : Dev nD) (r : Ref sig .tc) (h : r ∉ hostOps1_19_W) : W21 m ρ c (Proc.devRef .tc r) = W20 m ρ c (Proc.devRef .tc r) :=
  StableHlo.after_of_writes_sub hostOps1_19 _ hostOps1_19_writes h
/-- At boundary 21 of the program every argument is as launched. -/
theorem W21_args (c : Dev nD) : ∀ a ∈ argRefs, W21 m ρ c (Proc.devRef .tc a) = m ((c : Thread nD τ).loc a) :=
  fun a ha => (W21_of m ρ c a (hostOps1_19_args a ha)).trans (W20_args m ρ c a ha)
/-- After `hostOps1_20`. -/
abbrev W22 : Dev nD → Valuation τ sig (Elt F) := fun c => StableHlo.after hostOps1_20 (W21 m ρ c)
/-- A reference `hostOps1_20` does not write keeps its contents across it. -/
theorem W22_of (c : Dev nD) (r : Ref sig .tc) (h : r ∉ hostOps1_20_W) : W22 m ρ c (Proc.devRef .tc r) = W21 m ρ c (Proc.devRef .tc r) :=
  StableHlo.after_of_writes_sub hostOps1_20 _ hostOps1_20_writes h
/-- At boundary 22 of the program every argument is as launched. -/
theorem W22_args (c : Dev nD) : ∀ a ∈ argRefs, W22 m ρ c (Proc.devRef .tc a) = m ((c : Thread nD τ).loc a) :=
  fun a ha => (W22_of m ρ c a (hostOps1_20_args a ha)).trans (W21_args m ρ c a ha)
/-- After `hostOps1_21`. -/
abbrev W23 : Dev nD → Valuation τ sig (Elt F) := fun c => StableHlo.after hostOps1_21 (W22 m ρ c)
/-- A reference `hostOps1_21` does not write keeps its contents across it. -/
theorem W23_of (c : Dev nD) (r : Ref sig .tc) (h : r ∉ hostOps1_21_W) : W23 m ρ c (Proc.devRef .tc r) = W22 m ρ c (Proc.devRef .tc r) :=
  StableHlo.after_of_writes_sub hostOps1_21 _ hostOps1_21_writes h
/-- At boundary 23 of the program every argument is as launched. -/
theorem W23_args (c : Dev nD) : ∀ a ∈ argRefs, W23 m ρ c (Proc.devRef .tc a) = m ((c : Thread nD τ).loc a) :=
  fun a ha => (W23_of m ρ c a (hostOps1_21_args a ha)).trans (W22_args m ρ c a ha)
/-- After `hostOps1_22` (region 1's entry). -/
abbrev W24 : Dev nD → Valuation τ sig (Elt F) := fun c => StableHlo.after hostOps1_22 (W23 m ρ c)
/-- A reference `hostOps1_22` does not write keeps its contents across it. -/
theorem W24_of (c : Dev nD) (r : Ref sig .tc) (h : r ∉ hostOps1_22_W) : W24 m ρ c (Proc.devRef .tc r) = W23 m ρ c (Proc.devRef .tc r) :=
  StableHlo.after_of_writes_sub hostOps1_22 _ hostOps1_22_writes h
/-- At boundary 24 of the program every argument is as launched. -/
theorem W24_args (c : Dev nD) : ∀ a ∈ argRefs, W24 m ρ c (Proc.devRef .tc a) = m ((c : Thread nD τ).loc a) :=
  fun a ha => (W24_of m ρ c a (hostOps1_22_args a ha)).trans (W23_args m ρ c a ha)
/-- The same read at the TensorCore's references (what region 1's proof data take). -/
abbrev V24 : (c : Dev nD) → (b : Ref sig .tc) → Buf (Elt F) ((c : Thread nD τ).loc b) := fun c b => W24 m ρ c b
/-- At region 1's exit: its arrays at what the pipeline leaves (the inputs as entered, each output's write-backs
    folded: `Dat.arrAt … N`), every other buffer as entered (Lib/Pipeline/FrameSuffix.lean `withArrays`). -/
def W25 (c : Dev nD) : Valuation τ sig (Elt F) :=
  Pipeline.withArrays spec1 c (W24 m ρ c) fun w => (dat1 (V24 m ρ) c).arrAt w cfg1.N
/-- At boundary 25 each of the kernel's arrays is at the contents that its last point leaves. -/
theorem W25_arr (c : Dev nD) (w : Fin cfg1.W) :
    W25 m ρ c (Proc.devRef .tc (Pipeline.arrRef spec1 w)) = (dat1 (V24 m ρ) c).arrAt w cfg1.N := by
  unfold W25; exact Pipeline.withArrays_arr spec1 launch1.win.arr_inj c _ _ w
/-- At boundary 25 a buffer that is none of the kernel's arrays is as it was before. -/
theorem W25_of_ne (c : Dev nD) (b : Ref sig .tc) (hb : ∀ w, Pipeline.arrRef spec1 w ≠ b) :
    W25 m ρ c (Proc.devRef .tc b) = W24 m ρ c (Proc.devRef .tc b) := by
  unfold W25; exact Pipeline.withArrays_of_ne spec1 c _ _ b hb
/-- A reference that is none of region 1's OUTPUT arrays keeps its entry contents across it: an input window's
    array is never written back (`Dat.arrAt_in`, `A_eq1`); any other buffer is left as is. -/
theorem W25_of (c : Dev nD) (r : Ref sig .tc) (h : ∀ w : Fin cfg1.W, Pipeline.arrRef spec1 w = r → (cfg1.win w).isOut = false) :
    W25 m ρ c (Proc.devRef .tc r) = W24 m ρ c (Proc.devRef .tc r) := by
  by_cases hw : ∃ w : Fin cfg1.W, Pipeline.arrRef spec1 w = r
  · obtain ⟨w, rfl⟩ := hw
    exact (W25_arr m ρ c w).trans (((dat1 (V24 m ρ) c).arrAt_in w (h w rfl) _).trans (A_eq1 (V24 m ρ) c w))
  · exact W25_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- At boundary 25 of the program every argument is as launched. -/
theorem W25_args (c : Dev nD) : ∀ a ∈ argRefs, W25 m ρ c (Proc.devRef .tc a) = m ((c : Thread nD τ).loc a) :=
  fun a ha => (W25_of m ρ c a (argsIn1 a ha)).trans (W24_args m ρ c a ha)
/-- The same read at the TensorCore's references (region 1's exit contents). -/
abbrev V25 : (c : Dev nD) → (b : Ref sig .tc) → Buf (Elt F) ((c : Thread nD τ).loc b) := fun c b => W25 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V24 m ρ) c).arrAt w cfg1.N = V25 m ρ c (Pipeline.arrRef spec1 w) :=
  (W25_arr m ρ c w).symm
/-- A buffer that is none of the kernel's arrays is the same before and after the kernel. -/
theorem hrest1 (c : Dev nD) : ∀ b, b ∉ Finset.univ.image (Pipeline.arrRef spec1) → V25 m ρ c b = V24 m ρ c b :=
  fun b hb => W25_of_ne m ρ c b fun w e => hb (Finset.mem_image.mpr ⟨w, Finset.mem_univ _, e⟩)

/-- After `hostOps2`. -/
abbrev W26 : Dev nD → Valuation τ sig (Elt F) := fun c => StableHlo.after hostOps2 (W25 m ρ c)
/-- A reference `hostOps2` does not write keeps its contents across it. -/
theorem W26_of (c : Dev nD) (r : Ref sig .tc) (h : r ∉ hostOps2_W) : W26 m ρ c (Proc.devRef .tc r) = W25 m ρ c (Proc.devRef .tc r) :=
  StableHlo.after_of_writes_sub hostOps2 _ hostOps2_writes h
/-- At boundary 26 of the program every argument is as launched. -/
theorem W26_args (c : Dev nD) : ∀ a ∈ argRefs, W26 m ρ c (Proc.devRef .tc a) = m ((c : Thread nD τ).loc a) :=
  fun a ha => (W26_of m ρ c a (hostOps2_args a ha)).trans (W25_args m ρ c a ha)
/-- After `hostOps2_1`. -/
abbrev W27 : Dev nD → Valuation τ sig (Elt F) := fun c => StableHlo.after hostOps2_1 (W26 m ρ c)
/-- A reference `hostOps2_1` does not write keeps its contents across it. -/
theorem W27_of (c : Dev nD) (r : Ref sig .tc) (h : r ∉ hostOps2_1_W) : W27 m ρ c (Proc.devRef .tc r) = W26 m ρ c (Proc.devRef .tc r) :=
  StableHlo.after_of_writes_sub hostOps2_1 _ hostOps2_1_writes h
/-- At boundary 27 of the program every argument is as launched. -/
theorem W27_args (c : Dev nD) : ∀ a ∈ argRefs, W27 m ρ c (Proc.devRef .tc a) = m ((c : Thread nD τ).loc a) :=
  fun a ha => (W27_of m ρ c a (hostOps2_1_args a ha)).trans (W26_args m ρ c a ha)
/-- After `hostOps2_2`. -/
abbrev W28 : Dev nD → Valuation τ sig (Elt F) := fun c => StableHlo.after hostOps2_2 (W27 m ρ c)
/-- A reference `hostOps2_2` does not write keeps its contents across it. -/
theorem W28_of (c : Dev nD) (r : Ref sig .tc) (h : r ∉ hostOps2_2_W) : W28 m ρ c (Proc.devRef .tc r) = W27 m ρ c (Proc.devRef .tc r) :=
  StableHlo.after_of_writes_sub hostOps2_2 _ hostOps2_2_writes h
/-- At boundary 28 of the program every argument is as launched. -/
theorem W28_args (c : Dev nD) : ∀ a ∈ argRefs, W28 m ρ c (Proc.devRef .tc a) = m ((c : Thread nD τ).loc a) :=
  fun a ha => (W28_of m ρ c a (hostOps2_2_args a ha)).trans (W27_args m ρ c a ha)
/-- After `hostOps2_3`. -/
abbrev W29 : Dev nD → Valuation τ sig (Elt F) := fun c => StableHlo.after hostOps2_3 (W28 m ρ c)
/-- A reference `hostOps2_3` does not write keeps its contents across it. -/
theorem W29_of (c : Dev nD) (r : Ref sig .tc) (h : r ∉ hostOps2_3_W) : W29 m ρ c (Proc.devRef .tc r) = W28 m ρ c (Proc.devRef .tc r) :=
  StableHlo.after_of_writes_sub hostOps2_3 _ hostOps2_3_writes h
/-- At boundary 29 of the program every argument is as launched. -/
theorem W29_args (c : Dev nD) : ∀ a ∈ argRefs, W29 m ρ c (Proc.devRef .tc a) = m ((c : Thread nD τ).loc a) :=
  fun a ha => (W29_of m ρ c a (hostOps2_3_args a ha)).trans (W28_args m ρ c a ha)
/-- After `hostOps2_4`. -/
abbrev W30 : Dev nD → Valuation τ sig (Elt F) := fun c => StableHlo.after hostOps2_4 (W29 m ρ c)
/-- A reference `hostOps2_4` does not write keeps its contents across it. -/
theorem W30_of (c : Dev nD) (r : Ref sig .tc) (h : r ∉ hostOps2_4_W) : W30 m ρ c (Proc.devRef .tc r) = W29 m ρ c (Proc.devRef .tc r) :=
  StableHlo.after_of_writes_sub hostOps2_4 _ hostOps2_4_writes h
/-- At boundary 30 of the program every argument is as launched. -/
theorem W30_args (c : Dev nD) : ∀ a ∈ argRefs, W30 m ρ c (Proc.devRef .tc a) = m ((c : Thread nD τ).loc a) :=
  fun a ha => (W30_of m ρ c a (hostOps2_4_args a ha)).trans (W29_args m ρ c a ha)
/-- After `hostOps2_5`. -/
abbrev W31 : Dev nD → Valuation τ sig (Elt F) := fun c => StableHlo.after hostOps2_5 (W30 m ρ c)
/-- A reference `hostOps2_5` does not write keeps its contents across it. -/
theorem W31_of (c : Dev nD) (r : Ref sig .tc) (h : r ∉ hostOps2_5_W) : W31 m ρ c (Proc.devRef .tc r) = W30 m ρ c (Proc.devRef .tc r) :=
  StableHlo.after_of_writes_sub hostOps2_5 _ hostOps2_5_writes h
/-- At boundary 31 of the program every argument is as launched. -/
theorem W31_args (c : Dev nD) : ∀ a ∈ argRefs, W31 m ρ c (Proc.devRef .tc a) = m ((c : Thread nD τ).loc a) :=
  fun a ha => (W31_of m ρ c a (hostOps2_5_args a ha)).trans (W30_args m ρ c a ha)
/-- After `hostOps2_6`. -/
abbrev W32 : Dev nD → Valuation τ sig (Elt F) := fun c => StableHlo.after hostOps2_6 (W31 m ρ c)
/-- A reference `hostOps2_6` does not write keeps its contents across it. -/
theorem W32_of (c : Dev nD) (r : Ref sig .tc) (h : r ∉ hostOps2_6_W) : W32 m ρ c (Proc.devRef .tc r) = W31 m ρ c (Proc.devRef .tc r) :=
  StableHlo.after_of_writes_sub hostOps2_6 _ hostOps2_6_writes h
/-- At boundary 32 of the program every argument is as launched. -/
theorem W32_args (c : Dev nD) : ∀ a ∈ argRefs, W32 m ρ c (Proc.devRef .tc a) = m ((c : Thread nD τ).loc a) :=
  fun a ha => (W32_of m ρ c a (hostOps2_6_args a ha)).trans (W31_args m ρ c a ha)
/-- After `hostOps2_7`. -/
abbrev W33 : Dev nD → Valuation τ sig (Elt F) := fun c => StableHlo.after hostOps2_7 (W32 m ρ c)
/-- A reference `hostOps2_7` does not write keeps its contents across it. -/
theorem W33_of (c : Dev nD) (r : Ref sig .tc) (h : r ∉ hostOps2_7_W) : W33 m ρ c (Proc.devRef .tc r) = W32 m ρ c (Proc.devRef .tc r) :=
  StableHlo.after_of_writes_sub hostOps2_7 _ hostOps2_7_writes h
/-- At boundary 33 of the program every argument is as launched. -/
theorem W33_args (c : Dev nD) : ∀ a ∈ argRefs, W33 m ρ c (Proc.devRef .tc a) = m ((c : Thread nD τ).loc a) :=
  fun a ha => (W33_of m ρ c a (hostOps2_7_args a ha)).trans (W32_args m ρ c a ha)
/-- After `hostOps2_8`. -/
abbrev W34 : Dev nD → Valuation τ sig (Elt F) := fun c => StableHlo.after hostOps2_8 (W33 m ρ c)
/-- A reference `hostOps2_8` does not write keeps its contents across it. -/
theorem W34_of (c : Dev nD) (r : Ref sig .tc) (h : r ∉ hostOps2_8_W) : W34 m ρ c (Proc.devRef .tc r) = W33 m ρ c (Proc.devRef .tc r) :=
  StableHlo.after_of_writes_sub hostOps2_8 _ hostOps2_8_writes h
/-- At boundary 34 of the program every argument is as launched. -/
theorem W34_args (c : Dev nD) : ∀ a ∈ argRefs, W34 m ρ c (Proc.devRef .tc a) = m ((c : Thread nD τ).loc a) :=
  fun a ha => (W34_of m ρ c a (hostOps2_8_args a ha)).trans (W33_args m ρ c a ha)

/-! ### The arguments end as launched: no host stretch writes one and no region may change one (a region reads it
    through an input window or bypasses it) -/

/-- At boundary 34 argument 0 is as launched. -/
theorem W34_main_arg0 (c : Dev nD) : W34 m ρ c (Proc.devRef .tc main_arg0) = m ((c : Thread nD τ).loc main_arg0) :=
  W34_args m ρ c main_arg0 (by decide)
/-- At boundary 34 argument 1 is as launched. -/
theorem W34_main_arg1 (c : Dev nD) : W34 m ρ c (Proc.devRef .tc main_arg1) = m ((c : Thread nD τ).loc main_arg1) :=
  W34_args m ρ c main_arg1 (by decide)
/-- At boundary 34 argument 2 is as launched. -/
theorem W34_main_arg2 (c : Dev nD) : W34 m ρ c (Proc.devRef .tc main_arg2) = m ((c : Thread nD τ).loc main_arg2) :=
  W34_args m ρ c main_arg2 (by decide)
/-- At boundary 34 argument 3 is as launched. -/
theorem W34_main_arg3 (c : Dev nD) : W34 m ρ c (Proc.devRef .tc main_arg3) = m ((c : Thread nD τ).loc main_arg3) :=
  W34_args m ρ c main_arg3 (by decide)
/-- At boundary 34 argument 4 is as launched. -/
theorem W34_main_arg4 (c : Dev nD) : W34 m ρ c (Proc.devRef .tc main_arg4) = m ((c : Thread nD τ).loc main_arg4) :=
  W34_args m ρ c main_arg4 (by decide)
/-- At boundary 34 argument 5 is as launched. -/
theorem W34_main_arg5 (c : Dev nD) : W34 m ρ c (Proc.devRef .tc main_arg5) = m ((c : Thread nD τ).loc main_arg5) :=
  W34_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V24 m ρ) c
/-- No loop variants. -/
abbrev 𝒱₀ : Variants := Variants.none
/-- No core owes another anything: no level is assigned. -/
abbrev L : GSem nD τ sig → Finset Unit := fun _ => ∅
/-- Every semaphore at level zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W34`, the generator register at some state. -/
abbrev Tₙ (c : Dev nD) : sProp 𝕄 := iprop(StableHlo.held (c : Thread nD τ) (Pipeline.ucRefs τ sig) (W34 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W24`, left at `W25`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V24 m ρ) c).loose
  hwaits := Pipeline.hwaits_of_owed_zero _ _ _ _ L lv 1 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec1 c (V24 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V24 m ρ c) (A_eq1 (V24 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V24 m ρ c) (V25 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 34 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .host (hseg hostOps1_5 hostOps1_5_sub hostOps1_5_fresh (W6 m ρ)),
    .host (hseg hostOps1_6 hostOps1_6_sub hostOps1_6_fresh (W7 m ρ)),
    .host (hseg hostOps1_7 hostOps1_7_sub hostOps1_7_fresh (W8 m ρ)),
    .host (hseg hostOps1_8 hostOps1_8_sub hostOps1_8_fresh (W9 m ρ)),
    .host (hseg hostOps1_9 hostOps1_9_sub hostOps1_9_fresh (W10 m ρ)),
    .host (hseg hostOps1_10 hostOps1_10_sub hostOps1_10_fresh (W11 m ρ)),
    .host (hseg hostOps1_11 hostOps1_11_sub hostOps1_11_fresh (W12 m ρ)),
    .host (hseg hostOps1_12 hostOps1_12_sub hostOps1_12_fresh (W13 m ρ)),
    .host (hseg hostOps1_13 hostOps1_13_sub hostOps1_13_fresh (W14 m ρ)),
    .host (hseg hostOps1_14 hostOps1_14_sub hostOps1_14_fresh (W15 m ρ)),
    .host (hseg hostOps1_15 hostOps1_15_sub hostOps1_15_fresh (W16 m ρ)),
    .host (hseg hostOps1_16 hostOps1_16_sub hostOps1_16_fresh (W17 m ρ)),
    .host (hseg hostOps1_17 hostOps1_17_sub hostOps1_17_fresh (W18 m ρ)),
    .host (hseg hostOps1_18 hostOps1_18_sub hostOps1_18_fresh (W19 m ρ)),
    .host (hseg hostOps1_19 hostOps1_19_sub hostOps1_19_fresh (W20 m ρ)),
    .host (hseg hostOps1_20 hostOps1_20_sub hostOps1_20_fresh (W21 m ρ)),
    .host (hseg hostOps1_21 hostOps1_21_sub hostOps1_21_fresh (W22 m ρ)),
    .host (hseg hostOps1_22 hostOps1_22_sub hostOps1_22_fresh (W23 m ρ)),
    .region (reg1 m ρ),
    .host (hseg hostOps2 hostOps2_sub hostOps2_fresh (W25 m ρ)),
    .host (hseg hostOps2_1 hostOps2_1_sub hostOps2_1_fresh (W26 m ρ)),
    .host (hseg hostOps2_2 hostOps2_2_sub hostOps2_2_fresh (W27 m ρ)),
    .host (hseg hostOps2_3 hostOps2_3_sub hostOps2_3_fresh (W28 m ρ)),
    .host (hseg hostOps2_4 hostOps2_4_sub hostOps2_4_fresh (W29 m ρ)),
    .host (hseg hostOps2_5 hostOps2_5_sub hostOps2_5_fresh (W30 m ρ)),
    .host (hseg hostOps2_6 hostOps2_6_sub hostOps2_6_fresh (W31 m ρ)),
    .host (hseg hostOps2_7 hostOps2_7_sub hostOps2_7_fresh (W32 m ρ)),
    .host (hseg hostOps2_8 hostOps2_8_sub hostOps2_8_fresh (W33 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution of @main ends with every buffer that outlives the
    kernels at the last boundary's contents and every counter at zero. -/
theorem run : θ_run defs (onTc (τ := τ) (main (F := F))) ⟨m, fun _ => 0, ρ⟩ (fun r =>
      (∀ (c : Dev nD) (b : Ref sig .tc), ¬ (Proc.devRef .tc b : DevRef τ sig).isScoped →
        r.2.mem ((c.tc : Thread nD τ).loc b) = W34 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h hz => ⟨fun c b hb => h c _ (mem_uc b hb), funext fun g => hz g (.inr (no_unscoped g.2))⟩)

/-- Every execution ends with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun s h => ⟨fun c =>
      ⟨(h.1 c main_arg0 (by decide)).trans (W34_main_arg0 m ρ c),
       (h.1 c main_arg1 (by decide)).trans (W34_main_arg1 m ρ c),
       (h.1 c main_arg2 (by decide)).trans (W34_main_arg2 m ρ c),
       (h.1 c main_arg3 (by decide)).trans (W34_main_arg3 m ρ c),
       (h.1 c main_arg4 (by decide)).trans (W34_main_arg4 m ρ c),
       (h.1 c main_arg5 (by decide)).trans (W34_main_arg5 m ρ c)⟩, h.2⟩) (run m ρ)

end Cert.KernelIdeal.Prf

end
-- ==== Proof.ReferenceRun.lean ====
/- The run of the reference: host operations around one counted loop. Every execution ends with every buffer that holds a
   value of the program at the fold of its operations, and with every counter at zero; the arguments end as launched. -/
module

public import proofs.«01_k».proof.Proof.Gen.ReferenceIdeal.Run

@[expose] public section

set_option maxRecDepth 8192

noncomputable section

namespace Cert.ReferenceIdeal.Prf

open Cert.ReferenceIdeal.Gen Cert.ReferenceIdeal.Value
open Idealize.ShloMosaic Idealize.ShloMosaic.TcCoe Idealize.ShloMosaic.StableHlo Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

-- the program enters no kernel, so the ghost state is trivial
local notation "𝕄" => MT nD τ sig Unit (Elt F) ℕ (Option PUnit) ℕ

/-- The arguments' references. -/
abbrev argRefs : List (Ref sig .tc) := [main_arg0, main_arg1, main_arg2, main_arg3, main_arg4, main_arg5]

/-- What the operations of `hostOps0_12` write, in order. -/
abbrev hostOps0_12_W : List (Ref sig .tc) := [main_cst_16, main_v82, main_v83]
/-- Each operation of `hostOps0_12` writes only references of its list. -/
theorem hostOps0_12_writes : (hostOps0_12 : List (HloOp τ sig (Elt F))).Forall fun op => op.writes ⊆ (hostOps0_12_W.map (Proc.devRef (τ := τ) .tc)).toFinset :=
  StableHlo.forall_writes_sub_of_map rfl
/-- What the operations of `hostOps0_13` write, in order. -/
abbrev hostOps0_13_W : List (Ref sig .tc) := [main_call13_c, main_call13_v0, main_call13_v1, main_call13_c_0, main_call13_v2, main_call13_v3, main_call13_v4, main_call13_v5, main_call13_v6, main_call13_c_1, main_call13_c_2, main_call13_v7, main_call13_v8, main_call13_v9, main_call13_v10, main_call13_v11, main_call13_v12, main_call13_c_3, main_call13_v13, main_call13_v14, main_call13_v15, main_call13_cst, main_call13_v16, main_v84]
/-- Each operation of `hostOps0_13` writes only references of its list. -/
theorem hostOps0_13_writes : (hostOps0_13 : List (HloOp τ sig (Elt F))).Forall fun op => op.writes ⊆ (hostOps0_13_W.map (Proc.devRef (τ := τ) .tc)).toFinset :=
  StableHlo.forall_writes_sub_of_map rfl
/-- What the operations of `hostOps0_14` write, in order. -/
abbrev hostOps0_14_W : List (Ref sig .tc) := [main_cst_17, main_cst_18]
/-- Each operation of `hostOps0_14` writes only references of its list. -/
theorem hostOps0_14_writes : (hostOps0_14 : List (HloOp τ sig (Elt F))).Forall fun op => op.writes ⊆ (hostOps0_14_W.map (Proc.devRef (τ := τ) .tc)).toFinset :=
  StableHlo.forall_writes_sub_of_map rfl
/-- What the operations of `hostOps0_15` write, in order. -/
abbrev hostOps0_15_W : List (Ref sig .tc) := [main_call14_v0, main_call14_v1, main_call14_v2, main_call14_v3, main_call14_v4, main_v85]
/-- Each operation of `hostOps0_15` writes only references of its list. -/
theorem hostOps0_15_writes : (hostOps0_15 : List (HloOp τ sig (Elt F))).Forall fun op => op.writes ⊆ (hostOps0_15_W.map (Proc.devRef (τ := τ) .tc)).toFinset :=
  StableHlo.forall_writes_sub_of_map rfl
/-- What the operations of `hostOps0_16` write, in order. -/
abbrev hostOps0_16_W : List (Ref sig .tc) := [main_v86, main_v87, main_v88, main_v89, main_v90, main_v91, main_v92, main_v93, main_v94, main_v95, main_v96, main_v97, main_v98, main_v99, main_v100, main_v101, main_v102, main_v103, main_v104, main_v105, main_v106, main_v107]
/-- Each operation of `hostOps0_16` writes only references of its list. -/
theorem hostOps0_16_writes : (hostOps0_16 : List (HloOp τ sig (Elt F))).Forall fun op => op.writes ⊆ (hostOps0_16_W.map (Proc.devRef (τ := τ) .tc)).toFinset :=
  StableHlo.forall_writes_sub_of_map rfl
/-- What the operations of `hostOps0_17` write, in order. -/
abbrev hostOps0_17_W : List (Ref sig .tc) := [main_call15_c, main_call15_v0, main_call15_v1, main_call15_c_0, main_call15_v2, main_call15_v3, main_call15_v4, main_call15_v5, main_call15_v6, main_call15_c_1, main_call15_c_2, main_call15_v7, main_call15_v8, main_call15_v9, main_call15_v10, main_call15_v11, main_call15_v12, main_call15_c_3, main_call15_v13, main_call15_v14, main_call15_c_4, main_call15_v15, main_v108]
/-- Each operation of `hostOps0_17` writes only references of its list. -/
theorem hostOps0_17_writes : (hostOps0_17 : List (HloOp τ sig (Elt F))).Forall fun op => op.writes ⊆ (hostOps0_17_W.map (Proc.devRef (τ := τ) .tc)).toFinset :=
  StableHlo.forall_writes_sub_of_map rfl
/-- What the operations of `hostOps0_18` write, in order. -/
abbrev hostOps0_18_W : List (Ref sig .tc) := [main_v109, main_cst_19, main_v110, main_v111, main_cst_20, main_v112, main_v113, main_v114, main_v115, main_v116, main_v117, main_v118, main_v119, main_v120, main_v121, main_v122]
/-- Each operation of `hostOps0_18` writes only references of its list. -/
theorem hostOps0_18_writes : (hostOps0_18 : List (HloOp τ sig (Elt F))).Forall fun op => op.writes ⊆ (hostOps0_18_W.map (Proc.devRef (τ := τ) .tc)).toFinset :=
  StableHlo.forall_writes_sub_of_map rfl
/-- The operations of `hostOps0` write no argument. -/
theorem hostOps0_args : ∀ a ∈ argRefs, a ∉ hostOps0_W := by decide
/-- The operations of `hostOps0_1` write no argument. -/
theorem hostOps0_1_args : ∀ a ∈ argRefs, a ∉ hostOps0_1_W := by decide
/-- The operations of `hostOps0_2` write no argument. -/
theorem hostOps0_2_args : ∀ a ∈ argRefs, a ∉ hostOps0_2_W := by decide
/-- The operations of `hostOps0_3` write no argument. -/
theorem hostOps0_3_args : ∀ a ∈ argRefs, a ∉ hostOps0_3_W := by decide
/-- The operations of `hostOps0_4` write no argument. -/
theorem hostOps0_4_args : ∀ a ∈ argRefs, a ∉ hostOps0_4_W := by decide
/-- The operations of `hostOps0_5` write no argument. -/
theorem hostOps0_5_args : ∀ a ∈ argRefs, a ∉ hostOps0_5_W := by decide
/-- The operations of `hostOps0_6` write no argument. -/
theorem hostOps0_6_args : ∀ a ∈ argRefs, a ∉ hostOps0_6_W := by decide
/-- The operations of `hostOps0_7` write no argument. -/
theorem hostOps0_7_args : ∀ a ∈ argRefs, a ∉ hostOps0_7_W := by decide
/-- The operations of `hostOps0_8` write no argument. -/
theorem hostOps0_8_args : ∀ a ∈ argRefs, a ∉ hostOps0_8_W := by decide
/-- The operations of `hostOps0_9` write no argument. -/
theorem hostOps0_9_args : ∀ a ∈ argRefs, a ∉ hostOps0_9_W := by decide
/-- The operations of `hostOps0_10` write no argument. -/
theorem hostOps0_10_args : ∀ a ∈ argRefs, a ∉ hostOps0_10_W := by decide
/-- The operations of `hostOps0_11` write no argument. -/
theorem hostOps0_11_args : ∀ a ∈ argRefs, a ∉ hostOps0_11_W := by decide
/-- The operations of `while0Ops0` write no argument. -/
theorem while0Ops0_args : ∀ a ∈ argRefs, a ∉ while0Ops0_W := by decide
/-- The operations of `while0Ops0_1` write no argument. -/
theorem while0Ops0_1_args : ∀ a ∈ argRefs, a ∉ while0Ops0_1_W := by decide
/-- The operations of `while0Ops0_2` write no argument. -/
theorem while0Ops0_2_args : ∀ a ∈ argRefs, a ∉ while0Ops0_2_W := by decide
/-- The operations of `while0Ops0_3` write no argument. -/
theorem while0Ops0_3_args : ∀ a ∈ argRefs, a ∉ while0Ops0_3_W := by decide
/-- The operations of `while0Ops0_4` write no argument. -/
theorem while0Ops0_4_args : ∀ a ∈ argRefs, a ∉ while0Ops0_4_W := by decide
/-- The operations of `while0Ops0_5` write no argument. -/
theorem while0Ops0_5_args : ∀ a ∈ argRefs, a ∉ while0Ops0_5_W := by decide
/-- The operations of `while0Ops0_6` write no argument. -/
theorem while0Ops0_6_args : ∀ a ∈ argRefs, a ∉ while0Ops0_6_W := by decide
/-- The operations of `while0Ops0_7` write no argument. -/
theorem while0Ops0_7_args : ∀ a ∈ argRefs, a ∉ while0Ops0_7_W := by decide
/-- The operations of `while0Ops0_8` write no argument. -/
theorem while0Ops0_8_args : ∀ a ∈ argRefs, a ∉ while0Ops0_8_W := by decide
/-- The operations of `while0Ops0_9` write no argument. -/
theorem while0Ops0_9_args : ∀ a ∈ argRefs, a ∉ while0Ops0_9_W := by decide
/-- The operations of `while0Ops0_10` write no argument. -/
theorem while0Ops0_10_args : ∀ a ∈ argRefs, a ∉ while0Ops0_10_W := by decide
/-- The operations of `while0Ops0_11` write no argument. -/
theorem while0Ops0_11_args : ∀ a ∈ argRefs, a ∉ while0Ops0_11_W := by decide
/-- The operations of `while0Ops0_12` write no argument. -/
theorem while0Ops0_12_args : ∀ a ∈ argRefs, a ∉ while0Ops0_12_W := by decide
/-- The operations of `hostOps0_12` write no argument. -/
theorem hostOps0_12_args : ∀ a ∈ argRefs, a ∉ hostOps0_12_W := by decide
/-- The operations of `hostOps0_13` write no argument. -/
theorem hostOps0_13_args : ∀ a ∈ argRefs, a ∉ hostOps0_13_W := by decide
/-- The operations of `hostOps0_14` write no argument. -/
theorem hostOps0_14_args : ∀ a ∈ argRefs, a ∉ hostOps0_14_W := by decide
/-- The operations of `hostOps0_15` write no argument. -/
theorem hostOps0_15_args : ∀ a ∈ argRefs, a ∉ hostOps0_15_W := by decide
/-- The operations of `hostOps0_16` write no argument. -/
theorem hostOps0_16_args : ∀ a ∈ argRefs, a ∉ hostOps0_16_W := by decide
/-- The operations of `hostOps0_17` write no argument. -/
theorem hostOps0_17_args : ∀ a ∈ argRefs, a ∉ hostOps0_17_W := by decide
/-- The operations of `hostOps0_18` write no argument. -/
theorem hostOps0_18_args : ∀ a ∈ argRefs, a ∉ hostOps0_18_W := by decide
/-- The operations of `condOps` write no argument. -/
theorem condOps_args : ∀ a ∈ argRefs, a ∉ condOps_W := by decide

/-- Everything before the loop leaves the argument arrays as they were. -/
theorem keeps_pre (V : Valuation τ sig (Elt F)) (a : Ref sig .tc) (ha : a ∈ argRefs) :
    afterL preI V (Proc.devRef .tc a) = V (Proc.devRef .tc a) := by
  simp only [afterL_cons, afterL_nil]
  rw [after_of_writes_sub hostOps0_11 _ hostOps0_11_writes (hostOps0_11_args a ha),
    after_of_writes_sub hostOps0_10 _ hostOps0_10_writes (hostOps0_10_args a ha),
    after_of_writes_sub hostOps0_9 _ hostOps0_9_writes (hostOps0_9_args a ha),
    after_of_writes_sub hostOps0_8 _ hostOps0_8_writes (hostOps0_8_args a ha),
    after_of_writes_sub hostOps0_7 _ hostOps0_7_writes (hostOps0_7_args a ha),
    after_of_writes_sub hostOps0_6 _ hostOps0_6_writes (hostOps0_6_args a ha),
    after_of_writes_sub hostOps0_5 _ hostOps0_5_writes (hostOps0_5_args a ha),
    after_of_writes_sub hostOps0_4 _ hostOps0_4_writes (hostOps0_4_args a ha),
    after_of_writes_sub hostOps0_3 _ hostOps0_3_writes (hostOps0_3_args a ha),
    after_of_writes_sub hostOps0_2 _ hostOps0_2_writes (hostOps0_2_args a ha),
    after_of_writes_sub hostOps0_1 _ hostOps0_1_writes (hostOps0_1_args a ha),
    after_of_writes_sub hostOps0 _ hostOps0_writes (hostOps0_args a ha)]

/-- One trip of the loop leaves the argument arrays as they were. -/
theorem keeps_body (V : Valuation τ sig (Elt F)) (a : Ref sig .tc) (ha : a ∈ argRefs) :
    afterL bodyI V (Proc.devRef .tc a) = V (Proc.devRef .tc a) := by
  simp only [afterL_cons, afterL_nil]
  rw [after_of_writes_sub while0Ops0_12 _ while0Ops0_12_writes (while0Ops0_12_args a ha),
    after_of_writes_sub while0Ops0_11 _ while0Ops0_11_writes (while0Ops0_11_args a ha),
    after_of_writes_sub while0Ops0_10 _ while0Ops0_10_writes (while0Ops0_10_args a ha),
    after_of_writes_sub while0Ops0_9 _ while0Ops0_9_writes (while0Ops0_9_args a ha),
    after_of_writes_sub while0Ops0_8 _ while0Ops0_8_writes (while0Ops0_8_args a ha),
    after_of_writes_sub while0Ops0_7 _ while0Ops0_7_writes (while0Ops0_7_args a ha),
    after_of_writes_sub while0Ops0_6 _ while0Ops0_6_writes (while0Ops0_6_args a ha),
    after_of_writes_sub while0Ops0_5 _ while0Ops0_5_writes (while0Ops0_5_args a ha),
    after_of_writes_sub while0Ops0_4 _ while0Ops0_4_writes (while0Ops0_4_args a ha),
    after_of_writes_sub while0Ops0_3 _ while0Ops0_3_writes (while0Ops0_3_args a ha),
    after_of_writes_sub while0Ops0_2 _ while0Ops0_2_writes (while0Ops0_2_args a ha),
    after_of_writes_sub while0Ops0_1 _ while0Ops0_1_writes (while0Ops0_1_args a ha),
    after_of_writes_sub while0Ops0 _ while0Ops0_writes (while0Ops0_args a ha)]

/-- Everything after the loop leaves the argument arrays as they were. -/
theorem keeps_post (V : Valuation τ sig (Elt F)) (a : Ref sig .tc) (ha : a ∈ argRefs) :
    afterL postI V (Proc.devRef .tc a) = V (Proc.devRef .tc a) := by
  simp only [afterL_cons, afterL_nil]
  rw [after_of_writes_sub hostOps0_18 _ hostOps0_18_writes (hostOps0_18_args a ha),
    after_of_writes_sub hostOps0_17 _ hostOps0_17_writes (hostOps0_17_args a ha),
    after_of_writes_sub hostOps0_16 _ hostOps0_16_writes (hostOps0_16_args a ha),
    after_of_writes_sub hostOps0_15 _ hostOps0_15_writes (hostOps0_15_args a ha),
    after_of_writes_sub hostOps0_14 _ hostOps0_14_writes (hostOps0_14_args a ha),
    after_of_writes_sub hostOps0_13 _ hostOps0_13_writes (hostOps0_13_args a ha),
    after_of_writes_sub hostOps0_12 _ hostOps0_12_writes (hostOps0_12_args a ha)]

variable (m : (ℓ : Loc nD τ sig) → Buf (Elt F) ℓ) (ρ : Dev nD → PrngReg)

/-- The condition leaves the argument arrays as they were. -/
theorem keeps_cond (V : Valuation τ sig (Elt F)) (a : Ref sig .tc) (ha : a ∈ argRefs) :
    after condOps V (Proc.devRef .tc a) = V (Proc.devRef .tc a) :=
  after_of_writes_sub condOps _ condOps_writes (condOps_args a ha)

/-- Before every trip the arguments are as launched. -/
theorem keeps_trip (c : Dev nD) (a : Ref sig .tc) (ha : a ∈ argRefs) :
    ∀ k, atK m k c (Proc.devRef .tc a) = m ((c : Thread nD τ).loc a)
  | 0 => keeps_pre _ a ha
  | k + 1 => (keeps_body _ a ha).trans ((keeps_cond _ a ha).trans (keeps_trip c a ha k))

/-- The contents the run ends at. -/
abbrev fin (c : Dev nD) : Valuation τ sig (Elt F) := finalContents condOps preI bodyI postI 100 m c

/-- At the end the arguments are as launched. -/
theorem fin_args (c : Dev nD) (a : Ref sig .tc) (ha : a ∈ argRefs) : fin m c (Proc.devRef .tc a) = m ((c : Thread nD τ).loc a) :=
  (keeps_post _ a ha).trans ((keeps_cond _ a ha).trans (keeps_trip m c a ha 100))

/-- The program declares no counter that outlives its operations. -/
theorem no_unscoped : ∀ sm : SemLoc sig, sm.isScoped .tc = true := by decide

-- what the launch theorem is applied at: no kernel, no ticket, no level
/-- There are no pipelines to admit. -/
abbrev noAdm : (p : Fin 0) → (pcfgs (F := F) p).Adm := fun p => p.elim0
/-- There are no pipelines to hold tickets. -/
abbrev noTk : Fin 0 → Ticket (Ix := Unit) (Name := ℕ) (U := Option PUnit) (Lvl := ℕ) (nD := nD) (τ := τ) (pcfgs (F := F)) noAdm := fun j => j.elim0
/-- No semaphore is owed anything. -/
abbrev noL : GSem nD τ sig → Finset Unit := fun _ => ∅
/-- Every semaphore at level zero. -/
abbrev noLv : GSem nD τ sig → Unit → ℕ := fun _ _ => 0

/-- The core owes nothing: carried beside the buffers. -/
abbrev Ow (c : Dev nD) : sProp 𝕄 := iprop(∃ W, owes (c : Thread nD τ) (0 : CellTallies nD τ sig Unit) W)

/-- The loop's condition, with what the core owes carried across it. -/
theorem condO : LoopCond (pcfgs (F := F)) defs₀ Variants.none loops Ow (main_while0_cond (F := F)) condOps bodyI (entryContents preI m) 100 := by
  intro k hk c bd
  have hw := cond_spec m k hk c bd
  have hfr := (sep_mono_left (Q := Ow (F := F) c) hw).trans (wp_frame_r _ _ _)
  refine BIBase.Entails.trans ?_ (hfr.trans (wp_mono _ _ _ fun v => ?_))
  · iintro ⟨Hb, Hh, HR⟩
    isplitr [HR]
    · isplitl [Hb] <;> iassumption
    · iexact HR
  · iintro ⟨⟨%hv, Hb, Hh⟩, HR⟩
    isplitr; · ipureintro; exact hv
    isplitl [Hb]; · iexact Hb
    isplitl [Hh] <;> iassumption

/-- The program's parts: before the loop, the loop, after the loop. -/
def parts : List (CSeg (pcfgs (F := F)) noAdm defs₀ Variants.none noL noLv loops noTk) :=
  segsOf _ _ _ _ _ _ _ _ Ow preI hpre (launchContents m)
    ++ (loopSeg _ _ _ _ _ _ _ _ 0 main_while0_cond main_while0_body rfl condOps bodyI hbodyI (by rw [while0_body_chain]; rfl) 100
        (entryContents preI m) Ow (condO m)
      :: segsOf _ _ _ _ _ _ _ _ Ow postI hpost (fun c => after condOps (atK m 100 c)))

/-- The parts' programs, in order, are the program's. -/
theorem parts_prog : (parts (F := F) m).map CSeg.prog
    = (preI.map fun ops => (seq ops : Prog _ PUnit)) ++ HostLoop.enter 0 :: postI.map fun ops => (seq ops : Prog _ PUnit) := by
  rw [parts, List.map_append, List.map_cons, segsOf_prog, segsOf_prog]
  rfl

/-- The parts run one after the other from the launch memory. -/
theorem parts_runL : CSeg.runL (parts (F := F) m)
    = Pipeline.chain ((preI.map fun ops => (seq ops : Prog _ PUnit)) ++ HostLoop.enter 0 :: postI.map fun ops => (seq ops : Prog _ PUnit)) :=
  congrArg Pipeline.chain (parts_prog m)

/-- Each part starts from what the one before it left. -/
theorem parts_chain : CSeg.Chains (fun c => iprop(held (c : Thread nD τ) (ucRefs τ sig) (launchContents m c) ∗ Ow c)) (parts (F := F) m)
    (fun c => iprop(iprop(held (c : Thread nD τ) (ucRefs τ sig) (fin m c)) ∗ ∃ W, owes (c : Thread nD τ) (0 : CellTallies nD τ sig Unit) W)) := by
  rw [parts]
  exact CSeg.Chains.append (segsOf_chains _ _ _ _ _ _ _ _ Ow preI hpre _) ⟨fun _ => .rfl, segsOf_chains _ _ _ _ _ _ _ _ Ow postI hpost _⟩

/-- Every execution ends with every buffer that outlives its operations at the fold and every counter at zero. -/
theorem run : θ_run (defs (F := F)) (onTc (τ := τ) (main (F := F))) ⟨m, fun _ => 0, ρ⟩ (fun r =>
      (∀ (c : Dev nD) (b : Ref sig .tc), (Proc.devRef .tc b : DevRef τ sig).isScoped = false →
        r.2.mem ((c.tc : Thread nD τ).loc b) = fin m c (Proc.devRef .tc b))
      ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (parts m)
    (fun c Q => by
      rw [show main (F := F) c = Pipeline.chain ((preI.map fun ops => (seq ops : Prog _ PUnit)) ++ HostLoop.enter 0 :: postI.map fun ops => (seq ops : Prog _ PUnit))
        from by rw [main_chain]; rfl]
      rw [parts_runL])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Ow c))
    (Tₙ := fun c => iprop(held (c : Thread nD τ) (ucRefs τ sig) (fin m c)))
    (hch := parts_chain m)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      iintro ⟨Hh, HSI⟩
      unfold held
      imodintro
      iapply (pointsTo_read_all (ucRefs τ sig) (fun b => ((c : Dev nD), b)) (fun b => fin m c b) s')
      isplitl [Hh] <;> iassumption)
    (hQ := fun _ h hz => ⟨fun c b hb => h c _ (devRef_mem_ucRefs b hb), funext fun g => hz g (.inr (no_unscoped g.2))⟩)

/-- Every execution ends with the argument arrays as launched and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun s h => ⟨fun c =>
      ⟨(h.1 c main_arg0 (by decide)).trans (fin_args m c main_arg0 (by decide)),
       (h.1 c main_arg1 (by decide)).trans (fin_args m c main_arg1 (by decide)),
       (h.1 c main_arg2 (by decide)).trans (fin_args m c main_arg2 (by decide)),
       (h.1 c main_arg3 (by decide)).trans (fin_args m c main_arg3 (by decide)),
       (h.1 c main_arg4 (by decide)).trans (fin_args m c main_arg4 (by decide)),
       (h.1 c main_arg5 (by decide)).trans (fin_args m c main_arg5 (by decide))⟩, h.2⟩) (run m ρ)

end Cert.ReferenceIdeal.Prf

end
-- ==== Proof.Stages.lean ====
/- The two programs prepare the same candidates: stretch by stretch, from equal inputs, the kernel's host operations and
   the reference's leave equal results. -/
module

public import proofs.«01_k».proof.Proof.KernelIdealRun
public import proofs.«01_k».proof.Proof.ReferenceRun
public import Idealize.ShloMosaic.Lib.Pointwise
public import Idealize.ShloMosaic.Lib.StableHlo.RunRead

@[expose] public section

set_option maxRecDepth 16384

noncomputable section

namespace Cert.Same

open Idealize.ShloMosaic Idealize.ShloMosaic.StableHlo Idealize.ShloMosaic.TcCoe

/-- Contents of the kernel's buffers. -/
abbrev KV := Valuation Cert.KernelIdeal.τ Cert.KernelIdeal.sig (Elt Ideal)
/-- Contents of the reference's buffers. -/
abbrev RV := Valuation Cert.ReferenceIdeal.τ Cert.ReferenceIdeal.sig (Elt Ideal)
/-- A number of each candidate. -/
abbrev T2 := (⟨KernelIdeal.S8x1000, .f32⟩ : BufTy).Contents (Elt Ideal)
/-- A word of each candidate. -/
abbrev I2 := (⟨KernelIdeal.S8x1000, .i32⟩ : BufTy).Contents (Elt Ideal)
/-- A word of each candidate, as a column. -/
abbrev I3 := (⟨KernelIdeal.S8x1000x1, .i32⟩ : BufTy).Contents (Elt Ideal)
/-- Four numbers of each candidate. -/
abbrev T3 := (⟨KernelIdeal.S8x1000x4, .f32⟩ : BufTy).Contents (Elt Ideal)
/-- One column of the candidates' numbers. -/
abbrev T1 := (⟨KernelIdeal.S8x1000x1, .f32⟩ : BufTy).Contents (Elt Ideal)
/-- One word. -/
abbrev I0 := (⟨KernelIdeal.S_, .i32⟩ : BufTy).Contents (Elt Ideal)
/-- One number. -/
abbrev T0 := (⟨KernelIdeal.S_, .f32⟩ : BufTy).Contents (Elt Ideal)
/-- The anchors. -/
abbrev TA := (⟨KernelIdeal.S20000x4, .f32⟩ : BufTy).Contents (Elt Ideal)
/-- The regressions of every anchor. -/
abbrev TB := (⟨KernelIdeal.S8x20000x4, .f32⟩ : BufTy).Contents (Elt Ideal)
/-- The scores of every anchor. -/
abbrev TS := (⟨KernelIdeal.S8x20000x90, .f32⟩ : BufTy).Contents (Elt Ideal)

/-- The two hold the same values once they have the products and the anchors. -/
def Same0 (A : KV) (B : RV) : Prop :=
  (∃ x : TS, A (Proc.devRef .tc KernelIdeal.main_v0_0) = x ∧
    Host.dotGeneral (F := Ideal) (φ₁ := .f32) (φ₂ := .f32) ReferenceIdeal.dot_S8x20000x64_S64x90_S8x20000x90_2_0_01_1_n_n none
      (B (Proc.devRef .tc ReferenceIdeal.main_arg0)) (B (Proc.devRef .tc ReferenceIdeal.main_arg3)) = x) ∧
  (∃ x : TB, A (Proc.devRef .tc KernelIdeal.main_v0_1) = x ∧
    Host.dotGeneral (F := Ideal) (φ₁ := .f32) (φ₂ := .f32) ReferenceIdeal.dot_S8x20000x64_S64x4_S8x20000x4_2_0_01_1_n_n none
      (B (Proc.devRef .tc ReferenceIdeal.main_arg0)) (B (Proc.devRef .tc ReferenceIdeal.main_arg4)) = x) ∧
  (∃ x : TA, A (Proc.devRef .tc KernelIdeal.main_arg5) = x ∧ B (Proc.devRef .tc ReferenceIdeal.main_arg5) = x)

/-- The two hold the same values once they have the best thousand scores of each image and their places. -/
def Same1 (A : KV) (B : RV) : Prop :=
  (∃ x : T2, A (Proc.devRef .tc KernelIdeal.main_values) = x ∧ B (Proc.devRef .tc ReferenceIdeal.main_values) = x) ∧
  (∃ x : I2, A (Proc.devRef .tc KernelIdeal.main_indices) = x ∧ B (Proc.devRef .tc ReferenceIdeal.main_indices) = x) ∧
  (∃ x : I0, A (Proc.devRef .tc KernelIdeal.main_c) = x ∧ B (Proc.devRef .tc ReferenceIdeal.main_c) = x) ∧
  (∃ x : TB, A (Proc.devRef .tc KernelIdeal.main_v0_1) = x ∧ B (Proc.devRef .tc ReferenceIdeal.main_v1) = x) ∧
  (∃ x : TA, A (Proc.devRef .tc KernelIdeal.main_arg5) = x ∧ B (Proc.devRef .tc ReferenceIdeal.main_arg5) = x)

/-- The stretch that leaves the best thousand scores of each image and their places. -/
theorem same1 (A : KV) (B : RV) (h : Same0 A B) :
    Same1 (after (KernelIdeal.Gen.hostOps1 (F := Ideal)) A) (after (ReferenceIdeal.Gen.hostOps0 (F := Ideal)) B) := by
  obtain ⟨⟨x0, a0, b0⟩, ⟨x1, a1, b1⟩, ⟨x2, a2, b2⟩⟩ := h
  refine ⟨⟨_, rfl, ?_⟩, ⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2]) <;> rfl

/-- The two hold the same values once they have the anchor of each candidate. -/
def Same2 (A : KV) (B : RV) : Prop :=
  (∃ x : I2, A (Proc.devRef .tc KernelIdeal.main_v2) = x ∧ B (Proc.devRef .tc ReferenceIdeal.main_v3) = x) ∧
  (∃ x : I2, A (Proc.devRef .tc KernelIdeal.main_indices) = x ∧ B (Proc.devRef .tc ReferenceIdeal.main_indices) = x) ∧
  (∃ x : T2, A (Proc.devRef .tc KernelIdeal.main_values) = x ∧ B (Proc.devRef .tc ReferenceIdeal.main_values) = x) ∧
  (∃ x : TB, A (Proc.devRef .tc KernelIdeal.main_v0_1) = x ∧ B (Proc.devRef .tc ReferenceIdeal.main_v1) = x) ∧
  (∃ x : TA, A (Proc.devRef .tc KernelIdeal.main_arg5) = x ∧ B (Proc.devRef .tc ReferenceIdeal.main_arg5) = x)

/-- The stretch that leaves the anchor of each candidate. -/
theorem same2 (A : KV) (B : RV) (h : Same1 A B) :
    Same2 (after (KernelIdeal.Gen.hostOps1_1 (F := Ideal)) A) (after (ReferenceIdeal.Gen.hostOps0_1 (F := Ideal)) B) := by
  obtain ⟨⟨x0, a0, b0⟩, ⟨x1, a1, b1⟩, ⟨x2, a2, b2⟩, ⟨x3, a3, b3⟩, ⟨x4, a4, b4⟩⟩ := h
  refine ⟨⟨_, rfl, ?_⟩, ⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2, a3, b3, a4, b4]) <;> rfl

/-- The two hold the same values once they have the number of classes. -/
def Same3 (A : KV) (B : RV) : Prop :=
  (∃ x : I0, A (Proc.devRef .tc KernelIdeal.main_c_0) = x ∧ B (Proc.devRef .tc ReferenceIdeal.main_c_0) = x) ∧
  (∃ x : I2, A (Proc.devRef .tc KernelIdeal.main_v2) = x ∧ B (Proc.devRef .tc ReferenceIdeal.main_v3) = x) ∧
  (∃ x : I2, A (Proc.devRef .tc KernelIdeal.main_indices) = x ∧ B (Proc.devRef .tc ReferenceIdeal.main_indices) = x) ∧
  (∃ x : T2, A (Proc.devRef .tc KernelIdeal.main_values) = x ∧ B (Proc.devRef .tc ReferenceIdeal.main_values) = x) ∧
  (∃ x : TB, A (Proc.devRef .tc KernelIdeal.main_v0_1) = x ∧ B (Proc.devRef .tc ReferenceIdeal.main_v1) = x) ∧
  (∃ x : TA, A (Proc.devRef .tc KernelIdeal.main_arg5) = x ∧ B (Proc.devRef .tc ReferenceIdeal.main_arg5) = x)

/-- The stretch that leaves the number of classes. -/
theorem same3 (A : KV) (B : RV) (h : Same2 A B) :
    Same3 (after (KernelIdeal.Gen.hostOps1_2 (F := Ideal)) A) (after (ReferenceIdeal.Gen.hostOps0_2 (F := Ideal)) B) := by
  obtain ⟨⟨x0, a0, b0⟩, ⟨x1, a1, b1⟩, ⟨x2, a2, b2⟩, ⟨x3, a3, b3⟩, ⟨x4, a4, b4⟩⟩ := h
  refine ⟨⟨_, rfl, ?_⟩, ⟨_, rfl, ?_⟩, ⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2, a3, b3, a4, b4]) <;> rfl

/-- The two hold the same values once they have the class of each candidate. -/
def Same4 (A : KV) (B : RV) : Prop :=
  (∃ x : I2, A (Proc.devRef .tc KernelIdeal.main_v3) = x ∧ B (Proc.devRef .tc ReferenceIdeal.main_v4) = x) ∧
  (∃ x : I2, A (Proc.devRef .tc KernelIdeal.main_v2) = x ∧ B (Proc.devRef .tc ReferenceIdeal.main_v3) = x) ∧
  (∃ x : T2, A (Proc.devRef .tc KernelIdeal.main_values) = x ∧ B (Proc.devRef .tc ReferenceIdeal.main_values) = x) ∧
  (∃ x : TB, A (Proc.devRef .tc KernelIdeal.main_v0_1) = x ∧ B (Proc.devRef .tc ReferenceIdeal.main_v1) = x) ∧
  (∃ x : TA, A (Proc.devRef .tc KernelIdeal.main_arg5) = x ∧ B (Proc.devRef .tc ReferenceIdeal.main_arg5) = x)

/-- The stretch that leaves the class of each candidate. -/
theorem same4 (A : KV) (B : RV) (h : Same3 A B) :
    Same4 (after (KernelIdeal.Gen.hostOps1_3 (F := Ideal)) A) (after (ReferenceIdeal.Gen.hostOps0_3 (F := Ideal)) B) := by
  obtain ⟨⟨x0, a0, b0⟩, ⟨x1, a1, b1⟩, ⟨x2, a2, b2⟩, ⟨x3, a3, b3⟩, ⟨x4, a4, b4⟩, ⟨x5, a5, b5⟩⟩ := h
  refine ⟨⟨_, rfl, ?_⟩, ⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2, a3, b3, a4, b4, a5, b5]) <;> rfl

/-- The two hold the same values once they have the anchors as a column. -/
def Same5 (A : KV) (B : RV) : Prop :=
  (∃ x : I3, A (Proc.devRef .tc KernelIdeal.main_v4) = x ∧ B (Proc.devRef .tc ReferenceIdeal.main_v5) = x) ∧
  (∃ x : I2, A (Proc.devRef .tc KernelIdeal.main_v3) = x ∧ B (Proc.devRef .tc ReferenceIdeal.main_v4) = x) ∧
  (∃ x : I2, A (Proc.devRef .tc KernelIdeal.main_v2) = x ∧ B (Proc.devRef .tc ReferenceIdeal.main_v3) = x) ∧
  (∃ x : T2, A (Proc.devRef .tc KernelIdeal.main_values) = x ∧ B (Proc.devRef .tc ReferenceIdeal.main_values) = x) ∧
  (∃ x : TB, A (Proc.devRef .tc KernelIdeal.main_v0_1) = x ∧ B (Proc.devRef .tc ReferenceIdeal.main_v1) = x) ∧
  (∃ x : TA, A (Proc.devRef .tc KernelIdeal.main_arg5) = x ∧ B (Proc.devRef .tc ReferenceIdeal.main_arg5) = x)

/-- The stretch that leaves the anchors as a column. -/
theorem same5 (A : KV) (B : RV) (h : Same4 A B) :
    Same5 (after (KernelIdeal.Gen.hostOps1_4 (F := Ideal)) A) (after (ReferenceIdeal.Gen.hostOps0_4 (F := Ideal)) B) := by
  obtain ⟨⟨x0, a0, b0⟩, ⟨x1, a1, b1⟩, ⟨x2, a2, b2⟩, ⟨x3, a3, b3⟩, ⟨x4, a4, b4⟩⟩ := h
  refine ⟨⟨_, rfl, ?_⟩, ⟨_, rfl, ?_⟩, ⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2, a3, b3, a4, b4]) <;> rfl

/-- The two hold the same values once they have the regression of each candidate. -/
def Same6 (A : KV) (B : RV) : Prop :=
  (∃ x : T3, A (Proc.devRef .tc KernelIdeal.main_v5) = x ∧ B (Proc.devRef .tc ReferenceIdeal.main_v6) = x) ∧
  (∃ x : I2, A (Proc.devRef .tc KernelIdeal.main_v3) = x ∧ B (Proc.devRef .tc ReferenceIdeal.main_v4) = x) ∧
  (∃ x : I2, A (Proc.devRef .tc KernelIdeal.main_v2) = x ∧ B (Proc.devRef .tc ReferenceIdeal.main_v3) = x) ∧
  (∃ x : T2, A (Proc.devRef .tc KernelIdeal.main_values) = x ∧ B (Proc.devRef .tc ReferenceIdeal.main_values) = x) ∧
  (∃ x : TA, A (Proc.devRef .tc KernelIdeal.main_arg5) = x ∧ B (Proc.devRef .tc ReferenceIdeal.main_arg5) = x)

/-- The stretch that leaves the regression of each candidate. -/
theorem same6 (A : KV) (B : RV) (h : Same5 A B) :
    Same6 (after (KernelIdeal.Gen.hostOps1_5 (F := Ideal)) A) (after (ReferenceIdeal.Gen.hostOps0_5 (F := Ideal)) B) := by
  obtain ⟨⟨x0, a0, b0⟩, ⟨x1, a1, b1⟩, ⟨x2, a2, b2⟩, ⟨x3, a3, b3⟩, ⟨x4, a4, b4⟩, ⟨x5, a5, b5⟩⟩ := h
  refine ⟨⟨_, rfl, ?_⟩, ⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2, a3, b3, a4, b4, a5, b5]) <;> rfl

/-- The two hold the same values once they have the anchor box of each candidate. -/
def Same7 (A : KV) (B : RV) : Prop :=
  (∃ x : T3, A (Proc.devRef .tc KernelIdeal.main_v6) = x ∧ B (Proc.devRef .tc ReferenceIdeal.main_v7) = x) ∧
  (∃ x : T3, A (Proc.devRef .tc KernelIdeal.main_v5) = x ∧ B (Proc.devRef .tc ReferenceIdeal.main_v6) = x) ∧
  (∃ x : I2, A (Proc.devRef .tc KernelIdeal.main_v3) = x ∧ B (Proc.devRef .tc ReferenceIdeal.main_v4) = x) ∧
  (∃ x : T2, A (Proc.devRef .tc KernelIdeal.main_values) = x ∧ B (Proc.devRef .tc ReferenceIdeal.main_values) = x)

/-- The stretch that leaves the anchor box of each candidate. -/
theorem same7 (A : KV) (B : RV) (h : Same6 A B) :
    Same7 (after (KernelIdeal.Gen.hostOps1_6 (F := Ideal)) A) (after (ReferenceIdeal.Gen.hostOps0_6 (F := Ideal)) B) := by
  obtain ⟨⟨x0, a0, b0⟩, ⟨x1, a1, b1⟩, ⟨x2, a2, b2⟩, ⟨x3, a3, b3⟩, ⟨x4, a4, b4⟩⟩ := h
  refine ⟨⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2, a3, b3, a4, b4]) <;> rfl

/-- The two hold the same values once they have centres, sizes and regression columns. -/
def Same8 (A : KV) (B : RV) : Prop :=
  (∃ x : T2, A (Proc.devRef .tc KernelIdeal.main_v13) = x ∧ B (Proc.devRef .tc ReferenceIdeal.main_v14) = x) ∧
  (∃ x : T2, A (Proc.devRef .tc KernelIdeal.main_v20) = x ∧ B (Proc.devRef .tc ReferenceIdeal.main_v21) = x) ∧
  (∃ x : T2, A (Proc.devRef .tc KernelIdeal.main_v25) = x ∧ B (Proc.devRef .tc ReferenceIdeal.main_v26) = x) ∧
  (∃ x : T2, A (Proc.devRef .tc KernelIdeal.main_v30) = x ∧ B (Proc.devRef .tc ReferenceIdeal.main_v31) = x) ∧
  (∃ x : T2, A (Proc.devRef .tc KernelIdeal.main_v32) = x ∧ B (Proc.devRef .tc ReferenceIdeal.main_v33) = x) ∧
  (∃ x : T2, A (Proc.devRef .tc KernelIdeal.main_v34) = x ∧ B (Proc.devRef .tc ReferenceIdeal.main_v35) = x) ∧
  (∃ x : T2, A (Proc.devRef .tc KernelIdeal.main_v36) = x ∧ B (Proc.devRef .tc ReferenceIdeal.main_v37) = x) ∧
  (∃ x : T2, A (Proc.devRef .tc KernelIdeal.main_v38) = x ∧ B (Proc.devRef .tc ReferenceIdeal.main_v39) = x) ∧
  (∃ x : T0, A (Proc.devRef .tc KernelIdeal.main_cst_2) = x ∧ B (Proc.devRef .tc ReferenceIdeal.main_cst_2) = x) ∧
  (∃ x : T0, A (Proc.devRef .tc KernelIdeal.main_cst_3) = x ∧ B (Proc.devRef .tc ReferenceIdeal.main_cst_3) = x) ∧
  (∃ x : I2, A (Proc.devRef .tc KernelIdeal.main_v3) = x ∧ B (Proc.devRef .tc ReferenceIdeal.main_v4) = x) ∧
  (∃ x : T2, A (Proc.devRef .tc KernelIdeal.main_values) = x ∧ B (Proc.devRef .tc ReferenceIdeal.main_values) = x)

/-- The stretch that leaves centres, sizes and regression columns. -/
theorem same8 (A : KV) (B : RV) (h : Same7 A B) :
    Same8 (after (KernelIdeal.Gen.hostOps1_7 (F := Ideal)) A) (after (ReferenceIdeal.Gen.hostOps0_7 (F := Ideal)) B) := by
  obtain ⟨⟨x0, a0, b0⟩, ⟨x1, a1, b1⟩, ⟨x2, a2, b2⟩, ⟨x3, a3, b3⟩⟩ := h
  refine ⟨⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2, a3, b3]) <;> rfl

/-- The two hold the same values once they have the clipped logarithm of the width. -/
def Same9 (A : KV) (B : RV) : Prop :=
  (∃ x : T2, A (Proc.devRef .tc KernelIdeal.main_v39) = x ∧ B (Proc.devRef .tc ReferenceIdeal.main_v40) = x) ∧
  (∃ x : T2, A (Proc.devRef .tc KernelIdeal.main_v13) = x ∧ B (Proc.devRef .tc ReferenceIdeal.main_v14) = x) ∧
  (∃ x : T2, A (Proc.devRef .tc KernelIdeal.main_v20) = x ∧ B (Proc.devRef .tc ReferenceIdeal.main_v21) = x) ∧
  (∃ x : T2, A (Proc.devRef .tc KernelIdeal.main_v25) = x ∧ B (Proc.devRef .tc ReferenceIdeal.main_v26) = x) ∧
  (∃ x : T2, A (Proc.devRef .tc KernelIdeal.main_v30) = x ∧ B (Proc.devRef .tc ReferenceIdeal.main_v31) = x) ∧
  (∃ x : T2, A (Proc.devRef .tc KernelIdeal.main_v32) = x ∧ B (Proc.devRef .tc ReferenceIdeal.main_v33) = x) ∧
  (∃ x : T2, A (Proc.devRef .tc KernelIdeal.main_v34) = x ∧ B (Proc.devRef .tc ReferenceIdeal.main_v35) = x) ∧
  (∃ x : T2, A (Proc.devRef .tc KernelIdeal.main_v36) = x ∧ B (Proc.devRef .tc ReferenceIdeal.main_v37) = x) ∧
  (∃ x : I2, A (Proc.devRef .tc KernelIdeal.main_v3) = x ∧ B (Proc.devRef .tc ReferenceIdeal.main_v4) = x) ∧
  (∃ x : T2, A (Proc.devRef .tc KernelIdeal.main_values) = x ∧ B (Proc.devRef .tc ReferenceIdeal.main_values) = x)

/-- The stretch that leaves the clipped logarithm of the width. -/
theorem same9 (A : KV) (B : RV) (h : Same8 A B) :
    Same9 (after (KernelIdeal.Gen.hostOps1_8 (F := Ideal)) A) (after (ReferenceIdeal.Gen.hostOps0_8 (F := Ideal)) B) := by
  obtain ⟨⟨x0, a0, b0⟩, ⟨x1, a1, b1⟩, ⟨x2, a2, b2⟩, ⟨x3, a3, b3⟩, ⟨x4, a4, b4⟩, ⟨x5, a5, b5⟩, ⟨x6, a6, b6⟩, ⟨x7, a7, b7⟩, ⟨x8, a8, b8⟩, ⟨x9, a9, b9⟩, ⟨x10, a10, b10⟩, ⟨x11, a11, b11⟩⟩ := h
  refine ⟨⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2, a3, b3, a4, b4, a5, b5, a6, b6, a7, b7, a8, b8, a9, b9, a10, b10, a11, b11]) <;> rfl

/-- The two hold the same values once they have the decoded width. -/
def Same10 (A : KV) (B : RV) : Prop :=
  (∃ x : T2, A (Proc.devRef .tc KernelIdeal.main_v41) = x ∧ B (Proc.devRef .tc ReferenceIdeal.main_v42) = x) ∧
  (∃ x : T0, A (Proc.devRef .tc KernelIdeal.main_cst_4) = x ∧ B (Proc.devRef .tc ReferenceIdeal.main_cst_4) = x) ∧
  (∃ x : T0, A (Proc.devRef .tc KernelIdeal.main_cst_5) = x ∧ B (Proc.devRef .tc ReferenceIdeal.main_cst_5) = x) ∧
  (∃ x : T2, A (Proc.devRef .tc KernelIdeal.main_v13) = x ∧ B (Proc.devRef .tc ReferenceIdeal.main_v14) = x) ∧
  (∃ x : T2, A (Proc.devRef .tc KernelIdeal.main_v20) = x ∧ B (Proc.devRef .tc ReferenceIdeal.main_v21) = x) ∧
  (∃ x : T2, A (Proc.devRef .tc KernelIdeal.main_v25) = x ∧ B (Proc.devRef .tc ReferenceIdeal.main_v26) = x) ∧
  (∃ x : T2, A (Proc.devRef .tc KernelIdeal.main_v30) = x ∧ B (Proc.devRef .tc ReferenceIdeal.main_v31) = x) ∧
  (∃ x : T2, A (Proc.devRef .tc KernelIdeal.main_v32) = x ∧ B (Proc.devRef .tc ReferenceIdeal.main_v33) = x) ∧
  (∃ x : T2, A (Proc.devRef .tc KernelIdeal.main_v34) = x ∧ B (Proc.devRef .tc ReferenceIdeal.main_v35) = x) ∧
  (∃ x : T2, A (Proc.devRef .tc KernelIdeal.main_v36) = x ∧ B (Proc.devRef .tc ReferenceIdeal.main_v37) = x) ∧
  (∃ x : I2, A (Proc.devRef .tc KernelIdeal.main_v3) = x ∧ B (Proc.devRef .tc ReferenceIdeal.main_v4) = x) ∧
  (∃ x : T2, A (Proc.devRef .tc KernelIdeal.main_values) = x ∧ B (Proc.devRef .tc ReferenceIdeal.main_values) = x)

/-- The stretch that leaves the decoded width. -/
theorem same10 (A : KV) (B : RV) (h : Same9 A B) :
    Same10 (after (KernelIdeal.Gen.hostOps1_9 (F := Ideal)) A) (after (ReferenceIdeal.Gen.hostOps0_9 (F := Ideal)) B) := by
  obtain ⟨⟨x0, a0, b0⟩, ⟨x1, a1, b1⟩, ⟨x2, a2, b2⟩, ⟨x3, a3, b3⟩, ⟨x4, a4, b4⟩, ⟨x5, a5, b5⟩, ⟨x6, a6, b6⟩, ⟨x7, a7, b7⟩, ⟨x8, a8, b8⟩, ⟨x9, a9, b9⟩⟩ := h
  refine ⟨⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2, a3, b3, a4, b4, a5, b5, a6, b6, a7, b7, a8, b8, a9, b9]) <;> rfl

/-- The two hold the same values once they have the clipped logarithm of the height. -/
def Same11 (A : KV) (B : RV) : Prop :=
  (∃ x : T2, A (Proc.devRef .tc KernelIdeal.main_v42) = x ∧ B (Proc.devRef .tc ReferenceIdeal.main_v43) = x) ∧
  (∃ x : T2, A (Proc.devRef .tc KernelIdeal.main_v41) = x ∧ B (Proc.devRef .tc ReferenceIdeal.main_v42) = x) ∧
  (∃ x : T2, A (Proc.devRef .tc KernelIdeal.main_v13) = x ∧ B (Proc.devRef .tc ReferenceIdeal.main_v14) = x) ∧
  (∃ x : T2, A (Proc.devRef .tc KernelIdeal.main_v20) = x ∧ B (Proc.devRef .tc ReferenceIdeal.main_v21) = x) ∧
  (∃ x : T2, A (Proc.devRef .tc KernelIdeal.main_v25) = x ∧ B (Proc.devRef .tc ReferenceIdeal.main_v26) = x) ∧
  (∃ x : T2, A (Proc.devRef .tc KernelIdeal.main_v30) = x ∧ B (Proc.devRef .tc ReferenceIdeal.main_v31) = x) ∧
  (∃ x : T2, A (Proc.devRef .tc KernelIdeal.main_v32) = x ∧ B (Proc.devRef .tc ReferenceIdeal.main_v33) = x) ∧
  (∃ x : T2, A (Proc.devRef .tc KernelIdeal.main_v34) = x ∧ B (Proc.devRef .tc ReferenceIdeal.main_v35) = x) ∧
  (∃ x : I2, A (Proc.devRef .tc KernelIdeal.main_v3) = x ∧ B (Proc.devRef .tc ReferenceIdeal.main_v4) = x) ∧
  (∃ x : T2, A (Proc.devRef .tc KernelIdeal.main_values) = x ∧ B (Proc.devRef .tc ReferenceIdeal.main_values) = x)

/-- The stretch that leaves the clipped logarithm of the height. -/
theorem same11 (A : KV) (B : RV) (h : Same10 A B) :
    Same11 (after (KernelIdeal.Gen.hostOps1_10 (F := Ideal)) A) (after (ReferenceIdeal.Gen.hostOps0_10 (F := Ideal)) B) := by
  obtain ⟨⟨x0, a0, b0⟩, ⟨x1, a1, b1⟩, ⟨x2, a2, b2⟩, ⟨x3, a3, b3⟩, ⟨x4, a4, b4⟩, ⟨x5, a5, b5⟩, ⟨x6, a6, b6⟩, ⟨x7, a7, b7⟩, ⟨x8, a8, b8⟩, ⟨x9, a9, b9⟩, ⟨x10, a10, b10⟩, ⟨x11, a11, b11⟩⟩ := h
  refine ⟨⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩, ⟨_, rfl, ?_⟩⟩ <;> after_reads_simp <;>
    (try simp -implicitDefEqProofs only [TRef.toBuf, TRef.ofBuf, cast_cast, cast_eq]) <;>
    (try simp only [a0, b0, a1, b1, a2, b2, a3, b3, a4, b4, a5, b5, a6, b6, a7, b7, a8, b8, a9, b9, a10, b10, a11, b11]) <;> rfl

/-- The two hold the same values once they have the decoded boxes, the classes and the scores. -/
def Same12 (A : KV) (B : RV) : Prop :=
  (∃ x : T3, A (Proc.devRef .tc KernelIdeal.main_v65) = x ∧ B (Proc.devRef .tc ReferenceIdeal.main_v66) = x) ∧
  (∃ x : I2, A (Proc.devRef .tc KernelIdeal.main_v3) = x ∧ B (Proc.devRef .tc ReferenceIdeal.main_v4) = x) ∧
  (∃ x : T2, A (Proc.devRef .tc KernelIdeal.main_v71) = x ∧ B (Proc.devRef .tc ReferenceIdeal.main_v72) = x)

/-- Four columns side by side are equal when the columns are. -/
theorem cat_congr {x0 x1 x2 x3 y0 y1 y2 y3 : T1} (h0 : y0 = x0) (h1 : y1 = x1) (h2 : y2 = x2) (h3 : y3 = x3) :
    (concatenate ReferenceIdeal.S8x1000x4 2 [⟨ReferenceIdeal.S8x1000x1, y0⟩, ⟨ReferenceIdeal.S8x1000x1, y1⟩, ⟨ReferenceIdeal.S8x1000x1, y2⟩,
      ⟨ReferenceIdeal.S8x1000x1, y3⟩] ReferenceIdeal.Gen.concatenates_S8x1000x1_S8x1000x1_S8x1000x1_S8x1000x1_S8x1000x4_d2 : T3)
    = concatenate KernelIdeal.S8x1000x4 2 [⟨KernelIdeal.S8x1000x1, x0⟩, ⟨KernelIdeal.S8x1000x1, x1⟩, ⟨KernelIdeal.S8x1000x1, x2⟩,
      ⟨KernelIdeal.S8x1000x1, x3⟩] KernelIdeal.Gen.concatenates_S8x1000x1_S8x1000x1_S8x1000x1_S8x1000x1_S8x1000x4_d2 := by
  subst h0 h1 h2 h3
  rfl

/-- The stretch that leaves the decoded boxes, the classes and the scores. -/
theorem same12 (A : KV) (B : RV) (h : Same11 A B) :
    Same12 (after (KernelIdeal.Gen.hostOps1_11 (F := Ideal)) A) (after (ReferenceIdeal.Gen.hostOps0_11 (F := Ideal)) B) := by
  obtain ⟨⟨x0, a0, b0⟩, ⟨x1, a1, b1⟩, ⟨x2, a2, b2⟩, ⟨x3, a3, b3⟩, ⟨x4, a4, b4⟩, ⟨x5, a5, b5⟩, ⟨x6, a6, b6⟩, ⟨x7, a7, b7⟩, ⟨x8, a8, b8⟩, ⟨x9, a9, b9⟩⟩ := h
  have e : (upto (ReferenceIdeal.Gen.hostOps0_11 (F := Ideal)) B 26 (Proc.devRef .tc ReferenceIdeal.main_v62) : T1)
        = upto (KernelIdeal.Gen.hostOps1_11 (F := Ideal)) A 26 (Proc.devRef .tc KernelIdeal.main_v61) ∧
      (upto (ReferenceIdeal.Gen.hostOps0_11 (F := Ideal)) B 26 (Proc.devRef .tc ReferenceIdeal.main_v63) : T1)
        = upto (KernelIdeal.Gen.hostOps1_11 (F := Ideal)) A 26 (Proc.devRef .tc KernelIdeal.main_v62) ∧
      (upto (ReferenceIdeal.Gen.hostOps0_11 (F := Ideal)) B 26 (Proc.devRef .tc ReferenceIdeal.main_v64) : T1)
        = upto (KernelIdeal.Gen.hostOps1_11 (F := Ideal)) A 26 (Proc.devRef .tc KernelIdeal.main_v63) ∧
      (upto (ReferenceIdeal.Gen.hostOps0_11 (F := Ideal)) B 26 (Proc.devRef .tc ReferenceIdeal.main_v65) : T1)
        = upto (KernelIdeal.Gen.hostOps1_11 (F := Ideal)) A 26 (Proc.devRef .tc KernelIdeal.main_v64) := by
    refine ⟨?_, ?_, ?_, ?_⟩ <;> after_reads_simp <;> simp only [a0, b0, a1, b1, a2, b2, a3, b3, a4, b4, a5, b5, a6, b6, a7, b7, a8, b8, a9, b9]
  refine ⟨⟨_, rfl, ?_⟩, ⟨_, rfl, ?_⟩, ⟨_, rfl, ?_⟩⟩ <;> after_reads_simp
  · exact cat_congr e.1 e.2.1 e.2.2.1 e.2.2.2
  all_goals (try simp only [a0, b0, a1, b1, a2, b2, a3, b3, a4, b4, a5, b5, a6, b6, a7, b7, a8, b8, a9, b9]) <;> rfl

end Cert.Same
-- ==== Proof.TopOne.lean ====
/- The greatest entry of a row and the first place that holds it: the one-entry top-k of a row, the row's maximum, the
   least place holding the maximum, and the sum that picks one entry out. -/
module

public import proofs.«01_k».proof.Proof.Gen.KernelIdeal.Skeleton
public import proofs.«01_k».proof.Proof.Gen.ReferenceIdeal.Run
public import Idealize.ShloMosaic.Lib.Pointwise
public import Idealize.ShloMosaic.Lib.SortFacts
public import Idealize.ShloMosaic.Lib.SortNet.Extract

@[expose] public section

set_option maxRecDepth 16384

noncomputable section

namespace Cert.Top

open Idealize.ShloMosaic Idealize.ShloMosaic.Pointwise

/-- Place `j` holds the greatest entry of `f`, and no earlier place holds it. -/
def IsTop {n : ℕ} (f : Fin n → EReal) (j : Fin n) : Prop := (∀ l, f l ≤ f j) ∧ ∀ l, l < j → f l < f j

/-- The first position of a stably sorted list of increasing positions: nothing sorts strictly before it, and it sorts
    strictly before everything at an earlier position. -/
theorem head_stableSort {n : ℕ} (R : Fin n → Fin n → Bool) (hR : ∀ a b, R a b = true → R b a = false)
    (hN : ∀ a b c, R a b = false → R b c = false → R a c = false) :
    ∀ l : List (Fin n), l.Pairwise (· < ·) → l ≠ [] → ∃ h t, stableSort R l = h :: t ∧ h ∈ l ∧
      (∀ b ∈ l, R b h = false) ∧ ∀ b ∈ l, b < h → R h b = true
  | [], _, h => absurd rfl h
  | [a], _, _ => by
    refine ⟨a, [], rfl, List.mem_cons_self, fun b hb => ?_, fun b hb hlt => ?_⟩
    · obtain rfl := List.mem_singleton.mp hb
      cases h : R b b
      · rfl
      · exact h ▸ hR b b h
    · exact absurd (List.mem_singleton.mp hb) hlt.ne
  | a :: a' :: l, hp, _ => by
    rw [List.pairwise_cons] at hp
    obtain ⟨h, t, hs, hm, h1, h2⟩ := head_stableSort R hR hN (a' :: l) hp.2 (List.cons_ne_nil _ _)
    have hs' : stableSort R (a :: a' :: l) = insertBefore R a (h :: t) := by rw [← hs]; rfl
    rcases hc : R h a with _ | _
    · refine ⟨a, h :: t, ?_, List.mem_cons_self, fun b hb => ?_, fun b hb hlt => ?_⟩
      · rw [hs', insertBefore, if_neg (by rw [hc]; decide)]
      · rcases List.mem_cons.mp hb with rfl | hb
        · cases h' : R b b
          · rfl
          · exact h' ▸ hR b b h'
        · exact hN b h a (h1 b hb) hc
      · rcases List.mem_cons.mp hb with rfl | hb
        · exact absurd hlt (lt_irrefl _)
        · exact absurd (hlt.trans (hp.1 b hb)) (lt_irrefl _)
    · refine ⟨h, insertBefore R a t, ?_, List.mem_cons_of_mem _ hm, fun b hb => ?_, fun b hb hlt => ?_⟩
      · rw [hs', insertBefore, if_pos hc]
      · rcases List.mem_cons.mp hb with rfl | hb
        · exact hR _ _ hc
        · exact h1 b hb
      · rcases List.mem_cons.mp hb with rfl | hb
        · exact hc
        · exact h2 b hb hlt

/-- A stable sort of a row, greatest first, starts with the first place that holds the greatest entry. -/
theorem isTop_sortedFrom {n : ℕ} (f : Fin (n + 1) → EReal) (R : Fin (n + 1) → Fin (n + 1) → Bool)
    (hR : ∀ a b, R a b = true ↔ f b < f a) : IsTop f (sortedFrom R 0) := by
  have hF : ∀ a b, R a b = false ↔ f a ≤ f b := fun a b => by
    rw [← Bool.not_eq_true, hR, not_lt]
  obtain ⟨h, t, hs, hm, h1, h2⟩ := head_stableSort R (fun a b h => (hF b a).mpr ((hR a b).mp h).le)
    (fun a b c h h' => (hF a c).mpr (((hF a b).mp h).trans ((hF b c).mp h'))) (List.finRange (n + 1))
    (List.pairwise_lt_finRange _) (by rw [List.finRange_succ]; exact List.cons_ne_nil _ _)
  have he : sortedFrom R 0 = h := by
    have key : ∀ (l : List (Fin (n + 1))) (e : l = h :: t) (hl : l.length = n + 1), l.get ((0 : Fin (n + 1)).cast hl.symm) = h := by
      rintro _ rfl hl
      rfl
    exact key _ hs (length_sortPositions _ R)
  rw [he]
  exact ⟨fun l => (hF l h).mp (h1 l (List.mem_finRange l)), fun l hl => (hR h l).mp (h2 l (List.mem_finRange l) hl)⟩

section reference
open Cert.ReferenceIdeal Cert.ReferenceIdeal.Gen

/-- The order a greatest-first sort of row `b` uses. -/
def rowGt (x : FVec Ideal S8x1000 .f32) (b : Fin 8) (k k' : Fin 1000) : Bool :=
  FloatOps.cmpfTotal (F := Ideal) .gt (x (ix2 b k)) (x (ix2 b k')) == 1#1

/-- Moving along the second axis from row `b` keeps the row and sets the column. -/
theorem along_ix2 (b : Fin 8) (l k : Fin 1000) : Shape.Idx.along (s := S8x1000) (ix2 b l) (1 : Fin 2) k = ix2 b k :=
  funext fun d => match d with
    | ⟨0, _⟩ => rfl
    | ⟨1, _⟩ => rfl

/-- The sort of every row with a companion, read at the row's first place. -/
theorem sort2_zero (x : FVec Ideal S8x1000 .f32) (y : IVec S8x1000 32) (b : Fin 8) :
    (Host.sort2 S8x1000 1 (fun l r => FloatOps.cmpfTotal (F := Ideal) (φ := .f32) .gt l.1 r.1) x y).1 (ix2 b 0)
      = x (ix2 b (sortedFrom (rowGt x b) 0)) ∧
    (Host.sort2 S8x1000 1 (fun l r => FloatOps.cmpfTotal (F := Ideal) (φ := .f32) .gt l.1 r.1) x y).2 (ix2 b 0)
      = y (ix2 b (sortedFrom (rowGt x b) 0)) := by
  unfold Host.sort2
  rw [dif_pos (show 1 < S8x1000.rank by decide)]
  have e : (fun k k' : Fin 1000 => FloatOps.cmpfTotal (F := Ideal) (φ := .f32) .gt
      (x (Shape.Idx.along (s := S8x1000) (ix2 b 0) (1 : Fin 2) k)) (x (Shape.Idx.along (s := S8x1000) (ix2 b 0) (1 : Fin 2) k')) == 1#1)
      = rowGt x b := funext fun k => funext fun k' => by rw [along_ix2, along_ix2]; rfl
  constructor
  · dsimp only
    refine congrArg x ((along_ix2 b 0 _).trans (congrArg (ix2 b) ?_))
    exact congrArg (fun R : Fin 1000 → Fin 1000 → Bool => sortedFrom R (0 : Fin 1000)) e
  · dsimp only
    refine congrArg y ((along_ix2 b 0 _).trans (congrArg (ix2 b) ?_))
    exact congrArg (fun R : Fin 1000 → Fin 1000 → Bool => sortedFrom R (0 : Fin 1000)) e

/-- The one-entry top-k of every row: the greatest entry, and the first place that holds it. -/
theorem topK_one (x : FVec Ideal S8x1000 .f32) (b : Fin 8) : ∃ j : Fin 1000, IsTop (fun l : Fin 1000 => x (ix2 b l)) j ∧
    (Host.topK S8x1 1 (FloatOps.cmpfTotal .gt) x sliceFits_S8x1000_S8x1).1 (ix2 b 0) = x (ix2 b j) ∧
    (Host.topK S8x1 1 (FloatOps.cmpfTotal .gt) x sliceFits_S8x1000_S8x1).2 (ix2 b 0) = BitVec.ofNat 32 j.val := by
  have hR : ∀ k k', rowGt x b k k' = true ↔ x (ix2 b k') < x (ix2 b k) := fun k k' => by
    show (BitVec.ofBool (decide _) == 1#1) = true ↔ _
    by_cases h : x (ix2 b k') < x (ix2 b k)
    · simp [h]
    · simp [h]
  refine ⟨sortedFrom (rowGt x b) 0, isTop_sortedFrom (n := 999) (fun l => x (ix2 b l)) (rowGt x b) hR, ?_, ?_⟩
  · unfold Host.topK
    pointwise []
    exact (sort2_zero x _ b).1
  · unfold Host.topK
    pointwise []
    refine (sort2_zero x _ b).2.trans ?_
    rfl

end reference

/-- The maximum of a row from a starting value below it is the entry at the first greatest place. -/
theorem fold_max_top {n : ℕ} (f : Fin n → EReal) (j : Fin n) (h : IsTop f j) (z : EReal) (hz : z ≤ f j) :
    (Finset.univ : Finset (Fin n)).fold max z f = f j := by
  refine le_antisymm ((Finset.fold_max_le _).mpr ⟨hz, fun l _ => h.1 l⟩) ?_
  exact (Finset.le_fold_max _).mpr (.inr ⟨j, Finset.mem_univ j, le_rfl⟩)

/-- The sum of a row that is zero off one place is the entry at that place. -/
theorem sum_pick {n : ℕ} (f : Fin n → EReal) (j : Fin n) (p : Fin n → Prop) [DecidablePred p] (hp : ∀ l, p l ↔ l = j) :
    (∑ l, if p l then f l else 0) = f j := by
  rw [Finset.sum_eq_single j (fun l _ hl => if_neg fun h => hl ((hp l).mp h)) (fun h => absurd (Finset.mem_univ j) h),
    if_pos ((hp j).mpr rfl)]

/-- The least of the words of the places that hold the maximum is the word of the first greatest place. -/
theorem fold_min_top {n : ℕ} (hn : n ≤ 2048) (f : Fin n → EReal) (j : Fin n) (h : IsTop f j) :
    (Finset.univ : Finset (Fin n)).fold IntOp.minsi 2147483647#32
      (fun l => if f l = f j then BitVec.ofNat 32 l.val else 2048#32) = BitVec.ofNat 32 j.val := by
  have hi : ∀ k : ℕ, k ≤ 2048 → (BitVec.ofNat 32 k).toInt = k := fun k hk => by
    rw [BitVec.toInt_eq_toNat_cond, BitVec.toNat_ofNat, Nat.mod_eq_of_lt (by omega), if_pos (by omega)]
  have hf : ∀ s : Finset (Fin n), (s.fold IntOp.minsi 2147483647#32
      (fun l => if f l = f j then BitVec.ofNat 32 l.val else 2048#32)).toInt
      = s.fold min 2147483647 (fun l => if f l = f j then (l.val : ℤ) else 2048) := fun s => by
    induction s using Finset.induction_on with
    | empty => rfl
    | insert a s ha ih =>
      rw [Finset.fold_insert ha, Finset.fold_insert ha, SortNet.toInt_minsi, ih]
      congr 1
      split
      · exact hi _ (by omega)
      · rfl
  apply BitVec.eq_of_toInt_eq
  rw [hf, hi _ (by omega)]
  refine le_antisymm ((Finset.fold_min_le _).mpr (.inr ⟨j, Finset.mem_univ j, by rw [if_pos rfl]⟩)) ?_
  refine (Finset.le_fold_min _).mpr ⟨by omega, fun l _ => ?_⟩
  split
  · rename_i he
    rcases lt_or_ge l j with hl | hl
    · exact absurd he (h.2 l hl).ne
    · exact_mod_cast hl
  · omega

/-- The equality test of two small words. -/
theorem cmpi_eq_word {k l : ℕ} (hk : k < 2048) (hl : l < 2048) :
    IntOp.cmpi CmpIPredicate.eq (BitVec.ofNat 32 k) (BitVec.ofNat 32 l) = if k = l then 1#1 else 0#1 := by
  by_cases e : k = l
  · simp [e, IntOp.cmpi]
  · have : ¬ BitVec.ofNat 32 k = BitVec.ofNat 32 l := fun h' => e (by
      have := congrArg BitVec.toNat h'
      simpa [BitVec.toNat_ofNat, Nat.mod_eq_of_lt (show k < 4294967296 by omega),
        Nat.mod_eq_of_lt (show l < 4294967296 by omega)] using this)
    simp [e, IntOp.cmpi, beq_eq_false_iff_ne.mpr this]

/-- The mark of a masked score. -/
abbrev dead : EReal := Ideal.ofBits .f32 3212836864#32

/-- The score of a place out of play is minus one. -/
theorem dead_eq : dead = -1 := by
  simp [dead, Ideal.ofBits, Ideal.ieee, -EReal.coe_mul]
  norm_num

/-- The score of the padded places is below it. -/
theorem pad_le_dead : Ideal.ofBits .f32 3221225472#32 ≤ dead := by
  rw [dead_eq, show Ideal.ofBits .f32 3221225472#32 = ((-2 : ℝ) : EReal) from by
    simp [Ideal.ofBits, Ideal.ieee, -EReal.coe_mul]; norm_num]
  rw [show (-1 : EReal) = ((-1 : ℝ) : EReal) from by norm_num]
  exact_mod_cast (by norm_num : (-2 : ℝ) ≤ -1)

/-- A logistic value is not negative. -/
theorem logistic_nonneg (x : EReal) : 0 ≤ Ideal.div 1 (1 + Ideal.exp x) := by
  have he : 0 ≤ Ideal.exp x := by
    induction x using EReal.rec with
    | bot => simp
    | top => simp
    | coe r => rw [Ideal.exp_coe]; exact_mod_cast (Real.exp_pos r).le
  have h : (0 : EReal) ≤ 1 + Ideal.exp x := add_nonneg zero_le_one he
  unfold Ideal.div
  split
  · simp
  · rw [one_mul]
    exact EReal.inv_nonneg_of_nonneg h

/-- The common area of two boxes `(y1, x1, y2, x2)`. -/
def overlap (p q : Fin 4 → EReal) : EReal :=
  max 0 (min (p 2) (q 2) - max (p 0) (q 0)) * max 0 (min (p 3) (q 3) - max (p 1) (q 1))

/-- The area of a box. -/
def area (p : Fin 4 → EReal) : EReal := (p 2 - p 0) * (p 3 - p 1)

/-- Box `q` overlaps box `p` by at least the threshold. -/
def Hits (p q : Fin 4 → EReal) : Prop :=
  Ideal.ofBits .f32 1056964608#32 ≤ Ideal.div (overlap p q) (area p + area q - overlap p q + Ideal.ofBits .f32 841731191#32)

section kernel
open Cert.KernelIdeal Cert.KernelIdeal.Gen

/-- The column numbers of the eight rows. -/
abbrev cols : IVec S8x1024 32 := iota .tc S8x1024 32 [1] iota_S8x1024_d1_w32

/-- The row maximum is the entry at the first greatest place. -/
theorem pay1_top (a : FVec Ideal S8x1024 .f32) (b : Fin 8) (j : Fin 1024) (h : IsTop (fun l : Fin 1024 => a (ix2 b l)) j) :
    k1_pay1 a (ix2 b 0) = a (ix2 b j) := by
  pointwise [k1_pay1]
  refine fold_max_top (fun l : Fin 1024 => a (ix2 b l)) j h _ ?_
  rw [show Ideal.ofBits FTy.f32 4286578688#32 = ⊥ from by simp [Ideal.ofBits, Ideal.ieee]]
  exact bot_le

/-- The selected place of a row is its first greatest place. -/
theorem pay3_top (a : FVec Ideal S8x1024 .f32) (b : Fin 8) (j : Fin 1024) (h : IsTop (fun l : Fin 1024 => a (ix2 b l)) j)
    (l : Fin 1024) : k1_pay3 cols a (ix2 b l) = if l = j then 1#1 else 0#1 := by
  pointwise [k1_pay3]
  rw [pay1_top a b j h, fold_min_top (by decide) (fun l : Fin 1024 => a (ix2 b l)) j h]
  rw [cmpi_eq_word (by omega) (by omega)]
  simp only [Fin.val_inj]

/-- The sum of a plane's entries at the selected place is the plane's entry at the row's first greatest place. -/
theorem pay4_top (p a : FVec Ideal S8x1024 .f32) (b : Fin 8) (j : Fin 1024) (h : IsTop (fun l : Fin 1024 => a (ix2 b l)) j) :
    k1_pay4 p cols a (ix2 b 0) = p (ix2 b j) := by
  pointwise [k1_pay4]
  simp only [pay3_top a b j h]
  refine (Finset.sum_congr rfl fun l _ => ?_).trans (sum_pick (fun l : Fin 1024 => p (ix2 b l)) j (· = j) fun _ => Iff.rfl)
  by_cases e : l = j
  · simp [e, Scalar.select]
  · simp [e, Scalar.select]

/-- The same of the plane that `k1_pay5` sums. -/
theorem pay5_top (p a : FVec Ideal S8x1024 .f32) (b : Fin 8) (j : Fin 1024) (h : IsTop (fun l : Fin 1024 => a (ix2 b l)) j) :
    k1_pay5 p cols a (ix2 b 0) = p (ix2 b j) := pay4_top p a b j h

/-- The same of the plane that `k1_pay6` sums. -/
theorem pay6_top (p a : FVec Ideal S8x1024 .f32) (b : Fin 8) (j : Fin 1024) (h : IsTop (fun l : Fin 1024 => a (ix2 b l)) j) :
    k1_pay6 p cols a (ix2 b 0) = p (ix2 b j) := pay4_top p a b j h

/-- The same of the plane that `k1_pay7` sums. -/
theorem pay7_top (p a : FVec Ideal S8x1024 .f32) (b : Fin 8) (j : Fin 1024) (h : IsTop (fun l : Fin 1024 => a (ix2 b l)) j) :
    k1_pay7 p cols a (ix2 b 0) = p (ix2 b j) := pay4_top p a b j h

/-- The same of the plane that `k1_pay8` sums. -/
theorem pay8_top (p a : FVec Ideal S8x1024 .f32) (b : Fin 8) (j : Fin 1024) (h : IsTop (fun l : Fin 1024 => a (ix2 b l)) j) :
    k1_pay8 p cols a (ix2 b 0) = p (ix2 b j) := pay4_top p a b j h

end kernel
end Cert.Top
end
-- ==== Proof.Planes.lean ====
/- The padded planes that the second kernel selects from, read entry by entry: the four coordinates, the class and the
   score of a candidate on the first thousand places, a score below every other beyond them. -/
module

public import proofs.«01_k».proof.Proof.Stages
public import proofs.«01_k».proof.Proof.TopOne
public import Idealize.ShloMosaic.Lib.StableHlo.ReadAt

@[expose] public section

set_option maxRecDepth 16384

noncomputable section

namespace Cert.Same

open Idealize.ShloMosaic Idealize.ShloMosaic.StableHlo Idealize.ShloMosaic.TcCoe Idealize.ShloMosaic.Pointwise
open Cert.KernelIdeal.Gen

/-- The host's operations from the first padded plane to the last. -/
abbrev padded (A : KV) : KV :=
  after hostOps1_22 (after hostOps1_21 (after hostOps1_20 (after hostOps1_19 (after hostOps1_18 (after hostOps1_17
    (after hostOps1_16 (after hostOps1_15 (after hostOps1_14 (after hostOps1_13 (after hostOps1_12 A))))))))))

/-- A padded plane. -/
abbrev TP := (⟨KernelIdeal.S8x1024, .f32⟩ : BufTy).Contents (Elt Ideal)

/-- The first coordinate's plane. -/
theorem plane0 (A : KV) (x : T2) (hx : A (Proc.devRef .tc KernelIdeal.main_v73) = x) (b : Fin 8) (l : Fin 1024) (hl : l.val < 1000) :
    (padded A (Proc.devRef .tc KernelIdeal.main_v74) : TP) (ix2 b l) = x (ix2 b ⟨l.val, hl⟩) := by
  unfold padded
  after_reads_at
  rw [dif_pos hl, hx]

/-- The second, third and fourth coordinates' planes. -/
theorem plane123 (A : KV) (x : T3) (hx : A (Proc.devRef .tc KernelIdeal.main_v65) = x) (b : Fin 8) (l : Fin 1024) (hl : l.val < 1000) :
    (padded A (Proc.devRef .tc KernelIdeal.main_v77) : TP) (ix2 b l) = x (ix3 b ⟨l.val, hl⟩ 1) ∧
    (padded A (Proc.devRef .tc KernelIdeal.main_v80) : TP) (ix2 b l) = x (ix3 b ⟨l.val, hl⟩ 2) ∧
    (padded A (Proc.devRef .tc KernelIdeal.main_v83) : TP) (ix2 b l) = x (ix3 b ⟨l.val, hl⟩ 3) := by
  unfold padded
  refine ⟨?_, ?_, ?_⟩ <;> after_reads_at <;> rw [dif_pos hl, hx]

/-- The classes' plane. -/
theorem plane4 (A : KV) (x : I2) (hx : A (Proc.devRef .tc KernelIdeal.main_v3) = x) (b : Fin 8) (l : Fin 1024) (hl : l.val < 1000) :
    (padded A (Proc.devRef .tc KernelIdeal.main_v85) : TP) (ix2 b l) = FloatOps.sitofp (F := Ideal) .f32 (x (ix2 b ⟨l.val, hl⟩)) := by
  unfold padded
  after_reads_at
  rw [dif_pos hl, hx]

/-- The scores' plane on the first thousand places. -/
theorem plane5 (A : KV) (x : T2) (hx : A (Proc.devRef .tc KernelIdeal.main_v71) = x) (b : Fin 8) (l : Fin 1024) (hl : l.val < 1000) :
    (padded A (Proc.devRef .tc KernelIdeal.main_v86) : TP) (ix2 b l) = x (ix2 b ⟨l.val, hl⟩) := by
  unfold padded
  after_reads_at
  rw [dif_pos hl, hx]

/-- The scores' plane beyond them. -/
theorem plane5_pad (A : KV) (b : Fin 8) (l : Fin 1024) (hl : 1000 ≤ l.val) :
    (padded A (Proc.devRef .tc KernelIdeal.main_v86) : TP) (ix2 b l) = Ideal.ofBits .f32 3221225472#32 := by
  unfold padded
  after_reads_at
  rw [dif_neg (by omega)]
  rfl

/-- The first coordinate of the decoded boxes, as the kernel's last stretch before the planes leaves it. -/
theorem first_coord (A : KV) : (after hostOps1_11 A (Proc.devRef .tc KernelIdeal.main_v73) : T2)
    = shapeCast KernelIdeal.S8x1000 (extractStridedSlice KernelIdeal.S8x1000x1 ![0, 0, 0]
        (after hostOps1_11 A (Proc.devRef .tc KernelIdeal.main_v65) : T3) slices_S8x1000x4_S8x1000x1_0_0_0) shapeCasts_S8x1000x1_S8x1000 := by
  after_reads_simp
  rfl

/-- One of the candidates' numbers. -/
abbrev num2 (x : T2) (b : Fin 8) (l : Fin 1000) : EReal := x (ix2 b l)
/-- One of the candidates' coordinates. -/
abbrev num3 (x : T3) (b : Fin 8) (l : Fin 1000) (c : Fin 4) : EReal := x (ix3 b l c)

/-- The reference's scores, entry by entry, are logistic values: none is negative. -/
theorem ref_scores (B : RV) (b : Fin 8) (l : Fin 1000) :
    0 ≤ num2 (after ReferenceIdeal.Gen.hostOps0_11 B (Proc.devRef .tc ReferenceIdeal.main_v72)) b l := by
  unfold num2
  after_reads_at
  exact Cert.Top.logistic_nonneg _

/-- The boxes that the reference's loop starts from: the decoded boxes, each moved by a multiple of its class. -/
theorem ref_boxes (B : RV) : (after ReferenceIdeal.Gen.hostOps0_11 B (Proc.devRef .tc ReferenceIdeal.main_v81_0) : T3)
      = (addf (F := Ideal) (s := KernelIdeal.S8x1000x4) (φ := .f32) (after ReferenceIdeal.Gen.hostOps0_11 B (Proc.devRef .tc ReferenceIdeal.main_v66) : T3)
        (after ReferenceIdeal.Gen.hostOps0_11 B (Proc.devRef .tc ReferenceIdeal.main_v77) : T3) : T3) := by
  after_reads_simp
  rfl

/-- The move of one box. -/
theorem ref_offset (B : RV) (b : Fin 8) (l : Fin 1000) (c : Fin 4) :
    num3 (after ReferenceIdeal.Gen.hostOps0_11 B (Proc.devRef .tc ReferenceIdeal.main_v77)) b l c
      = (FloatOps.sitofp (F := Ideal) .f32 ((B (Proc.devRef .tc ReferenceIdeal.main_v4) : I2) (ix2 b l)) : EReal) * Ideal.ofBits .f32 1149239296#32 := by
  unfold num3
  after_reads_at

/-- The counter and the scores that the reference's loop starts from. -/
theorem ref_start (B : RV) :
    (after ReferenceIdeal.Gen.hostOps0_11 B (Proc.devRef .tc ReferenceIdeal.main_v81_1) : I0) = (fun _ => 0#32) ∧
    (after ReferenceIdeal.Gen.hostOps0_11 B (Proc.devRef .tc ReferenceIdeal.main_v81_2) : T2)
      = (after ReferenceIdeal.Gen.hostOps0_11 B (Proc.devRef .tc ReferenceIdeal.main_v72) : T2) := by
  refine ⟨?_, ?_⟩ <;> after_reads_simp <;> rfl

end Cert.Same
-- ==== Proof.KernStep.lean ====
/- One trip of the kernel's selection loop, read entry by entry: with `j` the first place that holds a row's greatest live
   score, what the trip masks and what it writes to each of the six results. -/
module

public import proofs.«01_k».proof.Proof.KernelIdealRun
public import Idealize.ShloMosaic.Lib.Pointwise
public import proofs.«01_k».proof.Proof.TopOne

@[expose] public section

set_option maxRecDepth 16384

noncomputable section

namespace Cert.KernelIdeal.Prf

open Cert.KernelIdeal.Gen Cert.Top
open Idealize.ShloMosaic Idealize.ShloMosaic.Pointwise Idealize.ShloMosaic.TcCoe

/-- The box at a place of the planes, moved by its class. -/
def planeBox (x0 x1 x2 x3 x4 : Vec Ideal S8x1024 .f32) (b : Fin 8) (l : Fin 1024) : Fin 4 → EReal :=
  ![x0 (ix2 b l) + x4 (ix2 b l) * Ideal.ofBits .f32 1149239296#32, x1 (ix2 b l) + x4 (ix2 b l) * Ideal.ofBits .f32 1149239296#32,
    x2 (ix2 b l) + x4 (ix2 b l) * Ideal.ofBits .f32 1149239296#32, x3 (ix2 b l) + x4 (ix2 b l) * Ideal.ofBits .f32 1149239296#32]

/-- A fold over the first numbers keeps an invariant that each step keeps. -/
theorem fold_keeps {σ : Type} : ∀ {n : ℕ} (g : Fin n → σ → σ) (P : ℕ → σ → Prop) (init : σ), P 0 init →
    (∀ (k : Fin n) (a : σ), P k.val a → P (k.val + 1) (g k a)) → P n ((List.finRange n).foldl (fun a k => g k a) init)
  | 0, g, P, init, h0, hs => h0
  | n + 1, g, P, init, h0, hs => by
    rw [List.finRange_succ_last, List.foldl_append, List.foldl_map]
    exact hs (Fin.last n) _ (fold_keeps (fun k : Fin n => g k.castSucc) P init h0 fun k a => hs k.castSucc a)

/-- A choice by a conjunction of a test with a disjunction of two tests. -/
theorem sel_mask (A B C : Prop) [Decidable A] [Decidable B] [Decidable C] [Decidable (A ∧ (C ∨ B))] (d x : EReal) :
    Scalar.select (IntOp.andi (BitVec.ofBool (decide A)) (IntOp.ori (BitVec.ofBool (decide B)) (if C then 1#1 else 0#1))) d x
      = if A ∧ (C ∨ B) then d else x := by
  by_cases hA : A <;> by_cases hB : B <;> by_cases hC : C <;> simp [hA, hB, hC, Scalar.select, IntOp.andi, IntOp.ori]

/-- A choice by the equality of two words. -/
theorem sel_eq (v w : BitVec 32) (d x : EReal) :
    Scalar.select (IntOp.cmpi CmpIPredicate.eq v w) d x = if v = w then d else x := by
  by_cases e : v = w
  · simp [e, Scalar.select, IntOp.cmpi]
  · simp [e, Scalar.select, IntOp.cmpi, beq_eq_false_iff_ne.mpr e]

/-- The lane numbers of the two texts are the same array. -/
theorem cols_lanes : (lanes : IVec S8x1024 32) = cols := rfl

section step
variable (x0 x1 x2 x3 x4 : Vec Ideal S8x1024 .f32) (w : BitVec 32) (a : Carry Ideal) (b : Fin 8) (j : Fin 1024)
  (h : IsTop (fun l : Fin 1024 => a.1 (ix2 b l)) j)
include h

open Classical in
/-- The live scores after one trip: when the best is not masked, the selected place and every box that overlaps the
    selected one are masked. -/
theorem step_live (l : Fin 1024) : (nmsStep x0 x1 x2 x3 x4 w a).1 (ix2 b l) =
    (if 0 ≤ (a.1 (ix2 b j) : EReal) ∧ (l = j ∨ Hits (planeBox x0 x1 x2 x3 x4 b j) (planeBox x0 x1 x2 x3 x4 b l))
      then dead else (a.1 (ix2 b l) : EReal) : EReal) := by
  unfold nmsStep
  rw [cols_lanes]
  pointwise [k1_pay26, k1_pay24, k1_pay23, k1_pay17, k1_pay18, k1_pay19, k1_pay20, k1_pay21, k1_pay15, k1_pay10, k1_pay9, k1_pay16, k1_pay11,
    k1_pay12, k1_pay13, k1_pay2, k1_pay14]
  simp only [pay1_top _ b j h, pay3_top _ b j h, pay4_top _ _ b j h, pay5_top _ _ b j h, pay6_top _ _ b j h, pay7_top _ _ b j h, pay8_top _ _ b j h]
  rw [sel_mask]
  refine if_congr (and_congr Iff.rfl (or_congr Iff.rfl ?_)) rfl rfl
  unfold Hits overlap area planeBox
  simp only [max_comm _ (0 : EReal)]
  exact Iff.rfl

/-- The six results after one trip: the slot the trip writes holds the selected box, its score and its class. -/
theorem step_out (t : Fin 128) :
    ((nmsStep x0 x1 x2 x3 x4 w a).2.1 (ix2 b t) = if BitVec.ofNat 32 t.val = w then x0 (ix2 b j) else a.2.1 (ix2 b t)) ∧
    ((nmsStep x0 x1 x2 x3 x4 w a).2.2.1 (ix2 b t) = if BitVec.ofNat 32 t.val = w then x1 (ix2 b j) else a.2.2.1 (ix2 b t)) ∧
    ((nmsStep x0 x1 x2 x3 x4 w a).2.2.2.1 (ix2 b t) = if BitVec.ofNat 32 t.val = w then x2 (ix2 b j) else a.2.2.2.1 (ix2 b t)) ∧
    ((nmsStep x0 x1 x2 x3 x4 w a).2.2.2.2.1 (ix2 b t) = if BitVec.ofNat 32 t.val = w then x3 (ix2 b j) else a.2.2.2.2.1 (ix2 b t)) ∧
    ((nmsStep x0 x1 x2 x3 x4 w a).2.2.2.2.2.1 (ix2 b t) = if BitVec.ofNat 32 t.val = w then max (a.1 (ix2 b j)) (0 : EReal) else a.2.2.2.2.2.1 (ix2 b t)) ∧
    ((nmsStep x0 x1 x2 x3 x4 w a).2.2.2.2.2.2 (ix2 b t) = if BitVec.ofNat 32 t.val = w then x4 (ix2 b j) else a.2.2.2.2.2.2 (ix2 b t)) := by
  unfold nmsStep
  rw [cols_lanes]
  pointwise [k1_pay28, k1_pay29, k1_pay30, k1_pay31, k1_pay32, k1_pay33, k1_pay27, k1_pay14, k1_pay17, k1_pay18, k1_pay19, k1_pay20, k1_pay21]
  simp only [pay1_top _ b j h, pay3_top _ b j h, pay4_top _ _ b j h, pay5_top _ _ b j h, pay6_top _ _ b j h, pay7_top _ _ b j h, pay8_top _ _ b j h]
  exact ⟨sel_eq _ _ _ _, sel_eq _ _ _ _, sel_eq _ _ _ _, sel_eq _ _ _ _, sel_eq _ _ _ _, sel_eq _ _ _ _⟩

end step

end Cert.KernelIdeal.Prf
end
-- ==== Proof.RefStep.lean ====
/- One trip of the reference's selection loop, read entry by entry: the gather of the selected box, the masked scores
   and the row written to each of the two results. -/
module

public import proofs.«01_k».proof.Proof.Gen.ReferenceIdeal.Run
public import Idealize.ShloMosaic.Lib.Pointwise
public import proofs.«01_k».proof.Proof.TopOne

@[expose] public section

set_option maxRecDepth 16384

noncomputable section

namespace Cert.ReferenceIdeal.Prf

open Cert.ReferenceIdeal.Gen Cert.ReferenceIdeal.Value Cert.Top
open Idealize.ShloMosaic Idealize.ShloMosaic.Pointwise Idealize.ShloMosaic.TcCoe

/-- The word of a small number, read signed, is the number. -/
theorem toInt_small (k : ℕ) (hk : k < 2048) : (BitVec.ofNat 32 k).toInt = k := by
  rw [BitVec.toInt_eq_toNat_cond, BitVec.toNat_ofNat, Nat.mod_eq_of_lt (by omega), if_pos (by omega)]

/-- The loop counter before trip `k`, read signed, is `k`. -/
theorem iv_toInt (k : Fin 100) : (Scf.iv 0#32 1#32 k.val).toInt = k.val := by
  have := k.isLt
  unfold Scf.iv
  rw [BitVec.mul_one, BitVec.zero_add, toInt_small _ (by omega)]

/-- The gather of one box of each image, at an index in range. -/
theorem gather_box {α : Type} (x : S8x1000x4.Idx → α) (idx : IVec S8x1 32) (b : Fin 8) (c : Fin 4) (j : Fin 1000)
    (h : idx (ix2 b 0) = BitVec.ofNat 32 j.val) :
    Host.gather gather_S8x1000x4_S8x1_S8x4_1_1_0_0_1_1_114 x idx (ix2 b c) = x (ix3 b j c) := by
  unfold Host.gather
  congr 1
  funext a
  have hj := j.isLt
  match a with
  | ⟨0, _⟩ =>
    apply Fin.ext
    show 0 + _ + 0 = _
    rw [Nat.add_zero, Nat.zero_add]
    unfold GatherDims.batchCoord
    rw [dif_pos (by decide +revert)]
    rfl
  | ⟨1, _⟩ =>
    apply Fin.ext
    have e : GatherDims.siIdx gather_S8x1000x4_S8x1_S8x4_1_1_0_0_1_1_114 (ix2 b c) ⟨0, by decide⟩ = ix2 b 0 := by
      funext d
      match d with
      | ⟨0, _⟩ => rfl
      | ⟨1, _⟩ => rfl
    show min (idx (GatherDims.siIdx gather_S8x1000x4_S8x1_S8x4_1_1_0_0_1_1_114 (ix2 b c) ⟨0, by decide⟩)).toInt.toNat 999 + 0 + 0 = j.val
    rw [e, h, toInt_small _ (by omega)]
    simp only [Int.toNat_natCast]
    omega
  | ⟨2, _⟩ =>
    apply Fin.ext
    show 0 + 0 + _ = _
    rw [Nat.add_zero, Nat.zero_add]
    unfold GatherDims.offCoord
    rw [dif_pos (by decide +revert)]
    rfl

/-- The gather of one box of each image and slot, at an index in range. -/
theorem gather_boxes {α : Type} (x : S8x1000x4.Idx → α) (idx : IVec S8x100x1 32) (b : Fin 8) (t : Fin 100) (c : Fin 4) (j : Fin 1000)
    (h : idx (ix3 b t 0) = BitVec.ofNat 32 j.val) :
    Host.gather gather_S8x1000x4_S8x100x1_S8x100x4_2_1_0_0_1_2_114 x idx (ix3 b t c) = x (ix3 b j c) := by
  unfold Host.gather
  congr 1
  funext a
  have hj := j.isLt
  match a with
  | ⟨0, _⟩ =>
    apply Fin.ext
    show 0 + _ + 0 = _
    rw [Nat.add_zero, Nat.zero_add]
    unfold GatherDims.batchCoord
    rw [dif_pos (by decide +revert)]
    rfl
  | ⟨1, _⟩ =>
    apply Fin.ext
    have e : GatherDims.siIdx gather_S8x1000x4_S8x100x1_S8x100x4_2_1_0_0_1_2_114 (ix3 b t c) ⟨0, by decide⟩ = ix3 b t 0 := by
      funext d
      match d with
      | ⟨0, _⟩ => rfl
      | ⟨1, _⟩ => rfl
      | ⟨2, _⟩ => rfl
    show min (idx (GatherDims.siIdx gather_S8x1000x4_S8x100x1_S8x100x4_2_1_0_0_1_2_114 (ix3 b t c) ⟨0, by decide⟩)).toInt.toNat 999 + 0 + 0 = j.val
    rw [e, h, toInt_small _ (by omega)]
    simp only [Int.toNat_natCast]
    omega
  | ⟨2, _⟩ =>
    apply Fin.ext
    show 0 + 0 + _ = _
    rw [Nat.add_zero, Nat.zero_add]
    unfold GatherDims.offCoord
    rw [dif_pos (by decide +revert)]
    rfl

/-- The gather of one word of each image and slot, at an index in range. -/
theorem gather_words {α : Type} (x : S8x1000.Idx → α) (idx : IVec S8x100x1 32) (b : Fin 8) (t : Fin 100) (j : Fin 1000)
    (h : idx (ix3 b t 0) = BitVec.ofNat 32 j.val) :
    Host.gather gather_S8x1000_S8x100x1_S8x100_n_1_0_0_1_2_11 x idx (ix2 b t) = x (ix2 b j) := by
  unfold Host.gather
  congr 1
  funext a
  have hj := j.isLt
  match a with
  | ⟨0, _⟩ =>
    apply Fin.ext
    show 0 + _ + 0 = _
    rw [Nat.add_zero, Nat.zero_add]
    unfold GatherDims.batchCoord
    rw [dif_pos (by decide +revert)]
    rfl
  | ⟨1, _⟩ =>
    apply Fin.ext
    have e : GatherDims.siIdx gather_S8x1000_S8x100x1_S8x100_n_1_0_0_1_2_11 (ix2 b t) ⟨0, by decide⟩ = ix3 b t 0 := by
      funext d
      match d with
      | ⟨0, _⟩ => rfl
      | ⟨1, _⟩ => rfl
      | ⟨2, _⟩ => rfl
    show min (idx (GatherDims.siIdx gather_S8x1000_S8x100x1_S8x100_n_1_0_0_1_2_11 (ix2 b t) ⟨0, by decide⟩)).toInt.toNat 999 + 0 + 0 = j.val
    rw [e, h, toInt_small _ (by omega)]
    simp only [Int.toNat_natCast]
    omega

/-- A row written to a rectangle at row `k`. -/
theorem update_row {α : Type} (x : S100x8.Idx → α) (u : S1x8.Idx → α) (start : Fin 2 → Int) (k : Fin 100)
    (h0 : start 0 = k.val) (h1 : start 1 = 0) (t : Fin 100) (b : Fin 8) :
    Host.dynamicUpdateSlice x u start updateFits_S100x8_S1x8 (ix2 t b) = if t = k then u (ix2 0 b) else x (ix2 t b) := by
  have ht := t.isLt
  have hk := k.isLt
  have e0 : (min (max (start 0) 0) ((100 - 1 : ℕ) : ℤ)).toNat = k.val := by rw [h0]; omega
  have e1 : (min (max (start 1) 0) ((8 - 8 : ℕ) : ℤ)).toNat = 0 := by rw [h1]; rfl
  unfold Host.dynamicUpdateSlice updateSlice
  by_cases e : t = k
  · subst e
    rw [dif_pos (fun a => match a with
      | ⟨0, _⟩ => ⟨e0.le, show t.val < (min (max (start 0) 0) ((100 - 1 : ℕ) : ℤ)).toNat + 1 by omega⟩
      | ⟨1, _⟩ => ⟨show (min (max (start 1) 0) ((8 - 8 : ℕ) : ℤ)).toNat ≤ b.val by omega,
          show b.val < (min (max (start 1) 0) ((8 - 8 : ℕ) : ℤ)).toNat + 8 by omega⟩), if_pos rfl]
    refine congrArg u (funext fun a => ?_)
    match a with
    | ⟨0, _⟩ => exact Subsingleton.elim (α := Fin 1) _ _
    | ⟨1, _⟩ => exact Fin.ext (show b.val - (min (max (start 1) 0) ((8 - 8 : ℕ) : ℤ)).toNat = b.val by omega)
  · rw [if_neg e, dif_neg fun hin => e (Fin.ext ?_)]
    have h' : (min (max (start 0) 0) ((100 - 1 : ℕ) : ℤ)).toNat ≤ t.val ∧
      t.val < (min (max (start 0) 0) ((100 - 1 : ℕ) : ℤ)).toNat + 1 := hin 0
    omega

section step
variable (V : Valuation τ sig (Elt Ideal)) (b : Fin 8) (j : Fin 1000)
  (h : res_main_while0b_v124 V (ix1 b) = BitVec.ofNat 32 j.val)
include h

/-- The selected box. -/
theorem box_at (c : Fin 4) : res_main_while0b_v125 V (ix2 b c) = V (Proc.devRef .tc main_v81_0) (ix3 b j c) := by
  unfold res_main_while0b_v125
  refine gather_box _ _ b c j ?_
  pointwise []
  exact h

open Classical in
/-- The live scores after one trip: the selected place and every box that overlaps the selected one are masked. -/
theorem live_at (l : Fin 1000) : step_main_v81_2 V (ix2 b l) =
    (if l = j ∨ Hits (fun c => V (Proc.devRef .tc main_v81_0) (ix3 b j c)) (fun c => V (Proc.devRef .tc main_v81_0) (ix3 b l c))
      then dead else (V (Proc.devRef .tc main_v81_2) (ix2 b l) : EReal) : EReal) := by
  unfold step_main_v81_2 res_main_while0b_v158
  simp only [id_eq]
  pointwise []
  simp only [box_at V b j h, h]
  rw [cmpi_eq_word (by omega) (by omega)]
  by_cases e : l = j
  · simp [e, Scalar.select]
  · simp only [e, false_or, Fin.val_inj, if_false, Scalar.select, Hits, overlap, area, max_comm _ (0 : EReal)]
    rfl

end step

/-- The best live score of image `b`, as the one-entry top-k gives it. -/
def topVal (V : Valuation τ sig (Elt Ideal)) (b : Fin 8) : EReal :=
  (Host.topK S8x1 1 (FloatOps.cmpfTotal (F := Ideal) (φ := .f32) .gt) (V (Proc.devRef .tc main_v81_2) : FVec Ideal S8x1000 .f32)
    sliceFits_S8x1000_S8x1).1 (ix2 b 0)

/-- The place the trip selects, read off the top-k. -/
theorem place_eq (V : Valuation τ sig (Elt Ideal)) (b : Fin 8) : res_main_while0b_v124 V (ix1 b)
    = (Host.topK S8x1 1 (FloatOps.cmpfTotal (F := Ideal) (φ := .f32) .gt) (V (Proc.devRef .tc main_v81_2) : FVec Ideal S8x1000 .f32)
      sliceFits_S8x1000_S8x1).2 (ix2 b 0) := by
  pointwise [res_main_while0b_v124]

/-- The kept scores after trip `k`: row `k` is the best live scores, every other row is as it was. -/
theorem sc_at (V : Valuation τ sig (Elt Ideal)) (k t : Fin 100) (b : Fin 8)
    (h : V (Proc.devRef .tc main_v81_1) = fun _ => Scf.iv 0#32 1#32 k.val) :
    step_main_v81_3 V (ix2 t b) = (if t = k then
      topVal V b
      else V (Proc.devRef .tc main_v81_3) (ix2 t b) : EReal) := by
  unfold step_main_v81_3
  show Host.dynamicUpdateSlice _ _ _ _ _ = _
  refine (update_row _ _ _ k ?_ ?_ t b).trans ?_
  · rw [h]
    exact iv_toInt k
  · rfl
  · pointwise []
    rfl

/-- The kept places after trip `k`: row `k` is the best places, every other row is as it was. -/
theorem ix_at (V : Valuation τ sig (Elt Ideal)) (k t : Fin 100) (b : Fin 8)
    (h : V (Proc.devRef .tc main_v81_1) = fun _ => Scf.iv 0#32 1#32 k.val) :
    step_main_v81_4 V (ix2 t b) = if t = k then res_main_while0b_v124 V (ix1 b)
      else V (Proc.devRef .tc main_v81_4) (ix2 t b) := by
  unfold step_main_v81_4
  show Host.dynamicUpdateSlice _ _ _ _ _ = _
  refine (update_row _ _ _ k ?_ ?_ t b).trans ?_
  · rw [h]
    exact iv_toInt k
  · rfl
  · pointwise []

end Cert.ReferenceIdeal.Prf
end
-- ==== Proof.Loop.lean ====
/- The two selection loops side by side: after every trip the kernel's live scores are the reference's on the first
   thousand places and masked beyond them, and each slot written so far holds, in the kernel, the box, the score and the
   class of the place that the reference has kept. -/
module

public import proofs.«01_k».proof.Proof.KernStep
public import proofs.«01_k».proof.Proof.RefStep

@[expose] public section

set_option maxRecDepth 16384

noncomputable section

namespace Cert.Top

open Idealize.ShloMosaic Idealize.ShloMosaic.Pointwise Idealize.ShloMosaic.TcCoe
open Cert.KernelIdeal (S8x1024 S8x128)
open Cert.ReferenceIdeal.Value (STEP)

/-- A place among the first thousand, as a place of the padded rows. -/
abbrev wide (l : Fin 1000) : Fin 1024 := ⟨l.val, by have := l.isLt; omega⟩
/-- A slot among the first hundred, as a slot of the padded results. -/
abbrev slot (t : Fin 100) : Fin 128 := ⟨t.val, by have := t.isLt; omega⟩

/-- The score the reference has kept in a slot. -/
abbrev keptScore (V : Valuation Cert.ReferenceIdeal.τ Cert.ReferenceIdeal.sig (Elt Ideal)) (t : Fin 100) (b : Fin 8) : EReal :=
  V (Proc.devRef .tc Cert.ReferenceIdeal.main_v81_3) (ix2 t b)

/-- The two loops agree before trip `k`: `D` are the boxes and `C` the classes. -/
structure Sim (D : Fin 8 → Fin 1000 → Fin 4 → EReal) (C : Fin 8 → Fin 1000 → EReal) (k : ℕ)
    (a : Cert.KernelIdeal.Prf.Carry Ideal) (V : Valuation Cert.ReferenceIdeal.τ Cert.ReferenceIdeal.sig (Elt Ideal)) : Prop where
  live : ∀ (b : Fin 8) (l : Fin 1000), (a.1 (ix2 b (wide l)) : EReal) = V (Proc.devRef .tc Cert.ReferenceIdeal.main_v81_2) (ix2 b l)
  pad : ∀ (b : Fin 8) (l : Fin 1024), 1000 ≤ l.val → (a.1 (ix2 b l) : EReal) ≤ dead
  range : ∀ (b : Fin 8) (l : Fin 1000), (a.1 (ix2 b (wide l)) : EReal) = dead ∨ (0 : EReal) ≤ a.1 (ix2 b (wide l))
  count : V (Proc.devRef .tc Cert.ReferenceIdeal.main_v81_1) = fun _ => Scf.iv 0#32 1#32 k
  boxes : ∀ (b : Fin 8) (l : Fin 1000) (c : Fin 4), V (Proc.devRef .tc Cert.ReferenceIdeal.main_v81_0) (ix3 b l c)
    = (D b l c + C b l * Ideal.ofBits .f32 1149239296#32 : EReal)
  kept : ∀ (b : Fin 8) (t : Fin 100), t.val < k → ∃ j : Fin 1000,
    V (Proc.devRef .tc Cert.ReferenceIdeal.main_v81_4) (ix2 t b) = BitVec.ofNat 32 j.val ∧
    (a.2.1 (ix2 b (slot t)) : EReal) = D b j 0 ∧ (a.2.2.1 (ix2 b (slot t)) : EReal) = D b j 1 ∧
    (a.2.2.2.1 (ix2 b (slot t)) : EReal) = D b j 2 ∧ (a.2.2.2.2.1 (ix2 b (slot t)) : EReal) = D b j 3 ∧
    (a.2.2.2.2.2.1 (ix2 b (slot t)) : EReal)
      = max (keptScore V t b) (0 : EReal) ∧
    (a.2.2.2.2.2.2 (ix2 b (slot t)) : EReal) = C b j

/-- The first greatest place among the first thousand is the first greatest place of the padded row. -/
theorem isTop_wide (f : Fin 1024 → EReal) (g : Fin 1000 → EReal) (j : Fin 1000) (hg : ∀ l, f (wide l) = g l)
    (hp : ∀ l : Fin 1024, 1000 ≤ l.val → f l ≤ dead) (hr : ∀ l, f (wide l) = dead ∨ 0 ≤ f (wide l)) (h : IsTop g j) :
    IsTop f (wide j) := by
  have hd : ∀ l, dead ≤ f (wide l) := fun l => by
    rcases hr l with h | h
    · exact h.ge
    · refine le_trans ?_ h
      rw [dead_eq]
      exact EReal.neg_le.mp (by rw [neg_zero]; exact zero_le_one)
  refine ⟨fun l => ?_, fun l hl => ?_⟩
  · by_cases e : l.val < 1000
    · have := h.1 ⟨l.val, e⟩
      rw [← hg, ← hg] at this
      exact this
    · exact (hp l (by omega)).trans (hd j)
  · have hl' : l.val < j.val := hl
    have := h.2 ⟨l.val, by have := j.isLt; omega⟩ hl'
    rw [← hg, ← hg] at this
    exact this

section step
open Cert.KernelIdeal.Prf Cert.ReferenceIdeal.Prf Cert.ReferenceIdeal.Value

variable (D : Fin 8 → Fin 1000 → Fin 4 → EReal) (C : Fin 8 → Fin 1000 → EReal)
  (x0 x1 x2 x3 x4 : Vec Ideal S8x1024 .f32)
  (h0 : ∀ b l, (x0 (ix2 b (wide l)) : EReal) = D b l 0) (h1 : ∀ b l, (x1 (ix2 b (wide l)) : EReal) = D b l 1)
  (h2 : ∀ b l, (x2 (ix2 b (wide l)) : EReal) = D b l 2) (h3 : ∀ b l, (x3 (ix2 b (wide l)) : EReal) = D b l 3)
  (h4 : ∀ b l, (x4 (ix2 b (wide l)) : EReal) = C b l)
include h0 h1 h2 h3 h4

/-- The moved box of a place is the reference's. -/
theorem planeBox_eq {k : ℕ} {a : Carry Ideal} {V} (S : Sim D C k a V) (b : Fin 8) (l : Fin 1000) :
    planeBox x0 x1 x2 x3 x4 b (wide l) = fun c => (V (Proc.devRef .tc Cert.ReferenceIdeal.main_v81_0) (ix3 b l c) : EReal) := by
  funext c
  rw [S.boxes]
  unfold planeBox
  match c with
  | ⟨0, _⟩ => exact congrArg₂ (· + ·) (h0 b l) (congrArg (· * _) (h4 b l))
  | ⟨1, _⟩ => exact congrArg₂ (· + ·) (h1 b l) (congrArg (· * _) (h4 b l))
  | ⟨2, _⟩ => exact congrArg₂ (· + ·) (h2 b l) (congrArg (· * _) (h4 b l))
  | ⟨3, _⟩ => exact congrArg₂ (· + ·) (h3 b l) (congrArg (· * _) (h4 b l))

open Classical in
/-- One trip of each loop keeps them in agreement. -/
theorem Sim.step {k : ℕ} (hk : k < 100) {a : Carry Ideal} {V} (S : Sim D C k a V) :
    Sim D C (k + 1) (nmsStep x0 x1 x2 x3 x4 (Scf.iv 0#32 1#32 k) a) (STEP V) := by
  -- the place both loops select
  have top : ∀ b : Fin 8, ∃ j : Fin 1000, IsTop (fun l : Fin 1000 => (V (Proc.devRef .tc Cert.ReferenceIdeal.main_v81_2) (ix2 b l) : EReal)) j ∧
      topVal V b = (V (Proc.devRef .tc Cert.ReferenceIdeal.main_v81_2) (ix2 b j) : EReal) ∧
      res_main_while0b_v124 V (ix1 b) = BitVec.ofNat 32 j.val := fun b => by
    obtain ⟨j, hj, hv, hi⟩ := topK_one (V (Proc.devRef .tc Cert.ReferenceIdeal.main_v81_2)) b
    exact ⟨j, hj, hv, (place_eq V b).trans hi⟩
  have topW : ∀ (b : Fin 8) (j : Fin 1000), IsTop (fun l : Fin 1000 => (V (Proc.devRef .tc Cert.ReferenceIdeal.main_v81_2) (ix2 b l) : EReal)) j →
      IsTop (fun l : Fin 1024 => (a.1 (ix2 b l) : EReal)) (wide j) := fun b j hj =>
    isTop_wide _ _ j (S.live b) (S.pad b) (S.range b) hj
  have new : ∀ (b : Fin 8) (l : Fin 1000), ((nmsStep x0 x1 x2 x3 x4 (Scf.iv 0#32 1#32 k) a).1 (ix2 b (wide l)) : EReal)
      = step_main_v81_2 V (ix2 b l) := fun b l => by
    obtain ⟨j, hj, -, hi⟩ := top b
    rw [step_live x0 x1 x2 x3 x4 _ a b (wide j) (topW b j hj) (wide l), planeBox_eq D C x0 x1 x2 x3 x4 h0 h1 h2 h3 h4 S b j,
      planeBox_eq D C x0 x1 x2 x3 x4 h0 h1 h2 h3 h4 S b l]
    refine Eq.trans ?_ (live_at V b j hi l).symm
    have hw : wide l = wide j ↔ l = j := ⟨fun e => Fin.ext (show (wide l).val = (wide j).val from congrArg Fin.val e), fun e => e ▸ rfl⟩
    rw [← S.live b l]
    by_cases hm : (0 : EReal) ≤ a.1 (ix2 b (wide j))
    · exact if_congr (by rw [hw]; exact and_iff_right hm) rfl rfl
    · have hl : (a.1 (ix2 b (wide l)) : EReal) = dead := by
        rcases S.range b l with h | h
        · exact h
        · exact absurd (h.trans ((topW b j hj).1 (wide l))) hm
      rw [if_neg fun h => hm h.1, hl]
      split <;> rfl
  refine ⟨fun b l => ?_, fun b l hl => ?_, fun b l => ?_, ?_, fun b l c => ?_, fun b t ht => ?_⟩
  · rw [Cert.ReferenceIdeal.Value.STEP_main_v81_2]
    exact new b l
  · obtain ⟨j, hj, -, -⟩ := top b
    rw [step_live x0 x1 x2 x3 x4 _ a b (wide j) (topW b j hj) l]
    split
    · exact le_rfl
    · exact S.pad b l hl
  · obtain ⟨j, hj, -, -⟩ := top b
    rw [step_live x0 x1 x2 x3 x4 _ a b (wide j) (topW b j hj) (wide l)]
    split
    · exact .inl rfl
    · exact S.range b l
  · rw [Cert.ReferenceIdeal.Value.STEP_main_v81_1]
    unfold step_main_v81_1
    rw [S.count]
    funext i
    show Scf.iv 0#32 1#32 k + 1#32 = _
    unfold Scf.iv
    rw [BitVec.mul_one, BitVec.mul_one, BitVec.zero_add, BitVec.zero_add, BitVec.ofNat_add]
  · rw [Cert.ReferenceIdeal.Value.STEP_main_v81_0]
    exact S.boxes b l c
  · obtain ⟨j, hj, hv, hi⟩ := top b
    obtain ⟨e0, e1, e2, e3, e4, e5⟩ := step_out x0 x1 x2 x3 x4 (Scf.iv 0#32 1#32 k) a b (wide j) (topW b j hj) (slot t)
    have ks : keptScore (STEP V) t b = if t = ⟨k, hk⟩ then topVal V b else keptScore V t b :=
      (congrFun (Cert.ReferenceIdeal.Value.STEP_main_v81_3 V) _).trans (sc_at V ⟨k, hk⟩ t b S.count)
    rw [ks, Cert.ReferenceIdeal.Value.STEP_main_v81_4, ix_at V ⟨k, hk⟩ t b S.count, e0, e1, e2, e3, e4, e5]
    have hw : BitVec.ofNat 32 (slot t).val = Scf.iv 0#32 1#32 k ↔ t = ⟨k, hk⟩ := by
      unfold Scf.iv
      rw [BitVec.mul_one, BitVec.zero_add]
      refine ⟨fun e => Fin.ext ?_, fun e => by rw [e]⟩
      have ht' := t.isLt
      have := congrArg BitVec.toNat e
      simpa [BitVec.toNat_ofNat, Nat.mod_eq_of_lt (show t.val < 4294967296 by omega),
        Nat.mod_eq_of_lt (show k < 4294967296 by omega)] using this
    by_cases e : t = ⟨k, hk⟩
    · simp only [if_pos e, if_pos (hw.mpr e)]
      refine ⟨j, hi, h0 b j, h1 b j, h2 b j, h3 b j, ?_, h4 b j⟩
      rw [hv, ← S.live b j]
    · simp only [if_neg e, if_neg fun h => e (hw.mp h)]
      refine S.kept b t ?_
      have : t.val ≠ k := fun h => e (Fin.ext h)
      omega

end step

end Cert.Top
end
-- ==== Proof.Start.lean ====
/- Where the two selection loops start: the kernel's padded planes hold the reference's boxes, classes and scores. -/
module

public import proofs.«01_k».proof.Proof.Planes
public import proofs.«01_k».proof.Proof.Loop

@[expose] public section

set_option maxRecDepth 16384

noncomputable section

namespace Cert.Same

open Idealize.ShloMosaic Idealize.ShloMosaic.StableHlo Idealize.ShloMosaic.TcCoe Idealize.ShloMosaic.Pointwise
open Cert.KernelIdeal.Gen
open Cert.Top (wide Sim)

/-- The boxes of the reference. -/
abbrev boxesOf (B : RV) (b : Fin 8) (l : Fin 1000) (c : Fin 4) : EReal := num3 (B (Proc.devRef .tc ReferenceIdeal.main_v66)) b l c
/-- The classes of the reference, as numbers. -/
abbrev classesOf (B : RV) (b : Fin 8) (l : Fin 1000) : EReal :=
  FloatOps.sitofp (F := Ideal) .f32 ((B (Proc.devRef .tc ReferenceIdeal.main_v4) : I2) (ix2 b l))
/-- One of a padded plane's numbers. -/
abbrev numP (x : TP) (b : Fin 8) (l : Fin 1024) : EReal := x (ix2 b l)

/-- The loop starts from the scores' plane as it is. -/
theorem start_scores (x : TP) : (KernelIdeal.Gen.k1_pay22 (F := Ideal) x : TP) = x := by
  unfold KernelIdeal.Gen.k1_pay22
  exact shapeCast_self x _

variable (A : KV) (B : RV) (S : Same12 (after hostOps1_11 A) (after ReferenceIdeal.Gen.hostOps0_11 B))
include S

/-- The coordinate planes hold the boxes, the class plane the classes. -/
theorem planes_eq (b : Fin 8) (l : Fin 1000) :
    numP (padded (after hostOps1_11 A) (Proc.devRef .tc KernelIdeal.main_v74)) b (wide l) = boxesOf (after ReferenceIdeal.Gen.hostOps0_11 B) b l 0 ∧
    numP (padded (after hostOps1_11 A) (Proc.devRef .tc KernelIdeal.main_v77)) b (wide l) = boxesOf (after ReferenceIdeal.Gen.hostOps0_11 B) b l 1 ∧
    numP (padded (after hostOps1_11 A) (Proc.devRef .tc KernelIdeal.main_v80)) b (wide l) = boxesOf (after ReferenceIdeal.Gen.hostOps0_11 B) b l 2 ∧
    numP (padded (after hostOps1_11 A) (Proc.devRef .tc KernelIdeal.main_v83)) b (wide l) = boxesOf (after ReferenceIdeal.Gen.hostOps0_11 B) b l 3 ∧
    numP (padded (after hostOps1_11 A) (Proc.devRef .tc KernelIdeal.main_v85)) b (wide l) = classesOf (after ReferenceIdeal.Gen.hostOps0_11 B) b l := by
  obtain ⟨⟨x, hx, hx'⟩, ⟨y, hy, hy'⟩, -⟩ := S
  obtain ⟨h1, h2, h3⟩ := plane123 _ x hx b (wide l) l.isLt
  have h0 := plane0 _ _ (first_coord A) b (wide l) l.isLt
  rw [hx] at h0
  unfold boxesOf classesOf num3 numP
  rw [hx', hy']
  refine ⟨h0.trans ?_, h1, h2, h3, plane4 _ y hy b (wide l) l.isLt⟩
  pointwise []

/-- Before the first trip the two loops agree. -/
theorem sim_start (hc : after ReferenceIdeal.Gen.hostOps0_11 B (Proc.devRef .tc ReferenceIdeal.main_v4) = B (Proc.devRef .tc ReferenceIdeal.main_v4)) :
    Sim (boxesOf (after ReferenceIdeal.Gen.hostOps0_11 B)) (classesOf (after ReferenceIdeal.Gen.hostOps0_11 B)) 0
      (KernelIdeal.Prf.nmsInit (F := Ideal) (padded (after hostOps1_11 A) (Proc.devRef .tc KernelIdeal.main_v86)))
      (after ReferenceIdeal.Gen.hostOps0_11 B) := by
  obtain ⟨-, -, z, hz, hz'⟩ := S
  obtain ⟨hn, hs⟩ := ref_start B
  have e : KernelIdeal.Gen.k1_pay22 (F := Ideal) (padded (after hostOps1_11 A) (Proc.devRef .tc KernelIdeal.main_v86))
      = (padded (after hostOps1_11 A) (Proc.devRef .tc KernelIdeal.main_v86) : TP) := by
    exact start_scores _
  have live : ∀ (b : Fin 8) (l : Fin 1000), numP (padded (after hostOps1_11 A) (Proc.devRef .tc KernelIdeal.main_v86)) b (wide l)
      = num2 (after ReferenceIdeal.Gen.hostOps0_11 B (Proc.devRef .tc ReferenceIdeal.main_v72)) b l := fun b l => by
    unfold num2
    rw [hz']
    exact plane5 _ z hz b (wide l) l.isLt
  refine ⟨fun b l => ?_, fun b l hl => ?_, fun b l => .inr ?_, ?_, fun b l c => ?_, fun b t ht => absurd ht (Nat.not_lt_zero _)⟩
  · exact (congrFun e _).trans ((live b l).trans (congrFun hs _).symm)
  · refine le_of_eq_of_le ((congrFun e _).trans (plane5_pad _ b l hl)) Cert.Top.pad_le_dead
  · exact le_of_le_of_eq (ref_scores B b l) ((congrFun e _).trans (live b l)).symm
  · rw [Scf.iv_zero]
    exact hn
  · refine (congrFun (ref_boxes B) _).trans ?_
    refine congrArg (boxesOf (after ReferenceIdeal.Gen.hostOps0_11 B) b l c + ·) ?_
    refine (ref_offset B b l c).trans ?_
    unfold classesOf
    rw [hc]

end Cert.Same
-- ==== Proof.Heads.lean ====
/- The kernel's two products: block by block over the grid of eight images and five row blocks, the first kernel leaves
   the whole product of the features with each of the two weight matrices. -/
module

public import proofs.«01_k».proof.Proof.KernelIdealRun
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.KernelIdeal.Prf

open Cert.KernelIdeal.Gen
open Idealize.ShloMosaic Idealize.ShloMosaic.TcCoe Idealize.ShloMosaic.Pointwise
open Idealize.ShloMosaic.Pipeline (Dat)

/-- The product of the features with the class weights. -/
abbrev SCORES (X : FVec Ideal S8x20000x64 .f32) (Wt : FVec Ideal S64x90 .f32) : FVec Ideal S8x20000x90 .f32 :=
  Host.dotGeneral ReferenceIdeal.dot_S8x20000x64_S64x90_S8x20000x90_2_0_01_1_n_n none X Wt
/-- The product of the features with the box weights. -/
abbrev BOXES (X : FVec Ideal S8x20000x64 .f32) (Wt : FVec Ideal S64x4 .f32) : FVec Ideal S8x20000x4 .f32 :=
  Host.dotGeneral ReferenceIdeal.dot_S8x20000x64_S64x4_S8x20000x4_2_0_01_1_n_n none X Wt

/-- Which block each window holds at each point of the first kernel's grid. -/
theorem idx0 : ∀ t : Fin cfg0.N, win0_0.index t = ![t.val / 5, t.val % 5, 0] ∧ win0_1.index t = ![0, 0] ∧ win0_2.index t = ![0, 0]
    ∧ win0_3.index t = ![t.val / 5, t.val % 5, 0] ∧ win0_4.index t = ![t.val / 5, t.val % 5, 0] :=
  (by decide +kernel : ∀ t : Fin grid0.N, _)

variable (m : (ℓ : Loc nD τ sig) → Buf (Elt Ideal) ℓ) (ρ : Dev nD → PrngReg)

/-- A block of the class product, entry by entry. -/
theorem scores_point (c : Dev nD) (t : Fin cfg0.N) (y : S1x4000x90.Idx) :
    k0_pay2 (iblk0 (V0 m ρ) c 0 t) (iblk0 (V0 m ρ) c 1 t) y
      = SCORES (m ((c : Thread nD τ).loc main_arg0)) (m ((c : Thread nD τ).loc main_arg3)) (((cfg0.win 3).blk t).view.emb y) := by
  pointwise [k0_pay2, k0_pay1, SCORES]
  blk_point [iblk0, V0, W0, s₀, idx0 t]

/-- A block of the box product, entry by entry. -/
theorem boxes_point (c : Dev nD) (t : Fin cfg0.N) (y : S1x4000x4.Idx) :
    k0_pay3 (iblk0 (V0 m ρ) c 0 t) (iblk0 (V0 m ρ) c 2 t) y
      = BOXES (m ((c : Thread nD τ).loc main_arg0)) (m ((c : Thread nD τ).loc main_arg4)) (((cfg0.win 4).blk t).view.emb y) := by
  pointwise [k0_pay3, k0_pay1, BOXES]
  blk_point [iblk0, V0, W0, s₀, idx0 t]

/-- The first kernel leaves the class product. -/
theorem scores_final (c : Dev nD) : (dat0 (V0 m ρ) c).arrAt 3 cfg0.N
    = SCORES (m ((c : Thread nD τ).loc main_arg0)) (m ((c : Thread nD τ).loc main_arg3)) := by
  refine (dat0 (V0 m ρ) c).arrAt_eq_of_covers 3 _ (by decide +kernel) fun t _ y => ?_
  blk_simp
  rw [after0_3]; frame_out
  exact scores_point m ρ c t y

/-- The first kernel leaves the box product. -/
theorem boxes_final (c : Dev nD) : (dat0 (V0 m ρ) c).arrAt 4 cfg0.N
    = BOXES (m ((c : Thread nD τ).loc main_arg0)) (m ((c : Thread nD τ).loc main_arg4)) := by
  refine (dat0 (V0 m ρ) c).arrAt_eq_of_covers 4 _ (by decide +kernel) fun t _ y => ?_
  blk_simp
  rw [after0_4]; frame_out
  exact boxes_point m ρ c t y

end Cert.KernelIdeal.Prf
-- ==== Proof.Front.lean ====
/- From the start of the two programs to the selection loops: launched on the same arguments, kernel and reference reach
   the same boxes, scores and classes. -/
module

public import proofs.«01_k».proof.Proof.Start
public import proofs.«01_k».proof.Proof.Heads
public import proofs.«01_k».proof.Proof.ReferenceRun

@[expose] public section

set_option maxRecDepth 16384

noncomputable section

namespace Cert.Same

open Idealize.ShloMosaic Idealize.ShloMosaic.StableHlo Idealize.ShloMosaic.TcCoe Idealize.ShloMosaic.Pointwise

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- The two programs are launched on the same features, weights and anchors. -/
def SameArgs : Prop :=
  m' ((c.tc : Thread ReferenceIdeal.nD ReferenceIdeal.τ).loc ReferenceIdeal.main_arg0) = m ((c.tc : Thread KernelIdeal.nD KernelIdeal.τ).loc KernelIdeal.main_arg0) ∧
  m' ((c.tc : Thread ReferenceIdeal.nD ReferenceIdeal.τ).loc ReferenceIdeal.main_arg3) = m ((c.tc : Thread KernelIdeal.nD KernelIdeal.τ).loc KernelIdeal.main_arg3) ∧
  m' ((c.tc : Thread ReferenceIdeal.nD ReferenceIdeal.τ).loc ReferenceIdeal.main_arg4) = m ((c.tc : Thread KernelIdeal.nD KernelIdeal.τ).loc KernelIdeal.main_arg4) ∧
  m' ((c.tc : Thread ReferenceIdeal.nD ReferenceIdeal.τ).loc ReferenceIdeal.main_arg5) = m ((c.tc : Thread KernelIdeal.nD KernelIdeal.τ).loc KernelIdeal.main_arg5)

/-- The contents the reference is launched on. -/
abbrev launched : RV := launchContents m' c

variable (h : SameArgs m m' c)
include h

/-- After the first kernel its two products are the reference's. -/
theorem same_heads : Same0 (KernelIdeal.Prf.W1 m ρ c) (launched m' c) := by
  obtain ⟨h0, h3, h4, h5⟩ := h
  refine ⟨⟨_, KernelIdeal.Prf.W1_arr m ρ c 3, ?_⟩, ⟨_, KernelIdeal.Prf.W1_arr m ρ c 4, ?_⟩,
    ⟨_, KernelIdeal.Prf.W1_args m ρ c KernelIdeal.main_arg5 (by decide), h5⟩⟩
  · rw [KernelIdeal.Prf.scores_final]
    unfold KernelIdeal.Prf.SCORES
    rw [← h0, ← h3]
  · rw [KernelIdeal.Prf.boxes_final]
    unfold KernelIdeal.Prf.BOXES
    rw [← h0, ← h4]

open ReferenceIdeal.Gen in
/-- What the reference holds one stretch before its loop. -/
abbrev nearLoop : RV :=
  after hostOps0_10 (after hostOps0_9 (after hostOps0_8 (after hostOps0_7 (after hostOps0_6 (after hostOps0_5
    (after hostOps0_4 (after hostOps0_3 (after hostOps0_2 (after hostOps0_1 (after hostOps0 (launched m' c)))))))))))

/-- At the loops the boxes, the scores and the classes are the reference's. -/
theorem same_loop : Same12 (KernelIdeal.Prf.W13 m ρ c) (after ReferenceIdeal.Gen.hostOps0_11 (nearLoop m' c)) :=
  same12 _ _ (same11 _ _ (same10 _ _ (same9 _ _ (same8 _ _ (same7 _ _ (same6 _ _ (same5 _ _ (same4 _ _ (same3 _ _
    (same2 _ _ (same1 _ _ (same_heads m ρ m' c h))))))))))))

omit h in
/-- The contents the reference's loop is entered from. -/
theorem entry_eq : entryContents ReferenceIdeal.Value.preI m' c = after ReferenceIdeal.Gen.hostOps0_11 (nearLoop m' c) := by
  simp only [entryContents, afterL_cons, afterL_nil]

end Cert.Same
-- ==== Proof.Region.lean ====
/- What the second kernel leaves: its single point reads the six padded planes whole, runs its hundred trips, and writes
   the six selected rows whole. -/
module

public import proofs.«01_k».proof.Proof.KernelIdealRun
public import Idealize.ShloMosaic.Lib.Pipeline.ValueKit
public import Idealize.ShloMosaic.Lib.Pointwise

@[expose] public section

set_option maxRecDepth 16384

noncomputable section

namespace Cert.KernelIdeal.Prf

open Cert.KernelIdeal.Gen
open Idealize.ShloMosaic Idealize.ShloMosaic.TcCoe Idealize.ShloMosaic.Pointwise
open Idealize.ShloMosaic.Pipeline (Dat)

variable (V : (c : Dev nD) → (b : Ref sig .tc) → Buf (Elt Ideal) ((c : Thread nD τ).loc b))

/-- Each window's block starts at the origin. -/
theorem idx1 : ∀ (w : Fin cfg1.W) a, (cfg1.win w).index t1_0 a = 0 := by decide +kernel

/-- Each input's block is its whole plane. -/
theorem whole_in (c : Dev nD) :
    iblk1 V c 0 t1_0 = V c main_v74 ∧ iblk1 V c 1 t1_0 = V c main_v77 ∧ iblk1 V c 2 t1_0 = V c main_v80 ∧
    iblk1 V c 3 t1_0 = V c main_v83 ∧ iblk1 V c 4 t1_0 = V c main_v85 ∧ iblk1 V c 5 t1_0 = V c main_v86 := by
  refine ⟨?_, ?_, ?_, ?_, ?_, ?_⟩ <;> funext y <;> unfold iblk1 <;> rw [View.read_apply] <;>
    refine (cast_eq _ _).trans (congrArg (V c _) (funext fun a => Fin.ext ?_))
  all_goals first
    | exact (cfg1.win 0).rect_emb_val_of_index_zero t1_0 a (idx1 0 a) y
    | exact (cfg1.win 1).rect_emb_val_of_index_zero t1_0 a (idx1 1 a) y
    | exact (cfg1.win 2).rect_emb_val_of_index_zero t1_0 a (idx1 2 a) y
    | exact (cfg1.win 3).rect_emb_val_of_index_zero t1_0 a (idx1 3 a) y
    | exact (cfg1.win 4).rect_emb_val_of_index_zero t1_0 a (idx1 4 a) y
    | exact (cfg1.win 5).rect_emb_val_of_index_zero t1_0 a (idx1 5 a) y

/-- A load of a whole plane is the plane. -/
theorem ld_plane (x : Vec Ideal S8x1024 .f32) : View.ld x r1_0 = x := View.ld_unit_lit _ x (by decide)
/-- A store of a whole row leaves it. -/
theorem st_row (p : Vec Ideal S8x128 .f32) : View.canon [(⟨r1_1, p⟩ : View.Piece (Elt Ideal) S8x128 .f32)] = p :=
  View.canon_cons_unit_lit _ p [] (by decide)

/-- What the second kernel computes from the contents it starts from. -/
abbrev selected (c : Dev nD) : Carry Ideal :=
  nmsOut (V c main_v74) (V c main_v77) (V c main_v80) (V c main_v83) (V c main_v85) (V c main_v86)

/-- The selected boxes' top edges. -/
theorem arr1_6 (c : Dev nD) : (dat1 V c).arrAt 6 cfg1.N = (selected V c).2.1 := by
  refine (dat1 V c).arrAt_eq_of_after_last 6 t1_0 (by decide +kernel) _ fun j => ?_
  obtain ⟨e0, e1, e2, e3, e4, e5⟩ := whole_in V c
  rw [after1_6, e0, e1, e2, e3, e4, e5]
  unfold out1_6 selected
  rw [st_row, ld_plane, ld_plane, ld_plane, ld_plane, ld_plane, ld_plane]
  generalize nmsOut (F := Ideal) (V c main_v74) (V c main_v77) (V c main_v80) (V c main_v83) (V c main_v85) (V c main_v86) = z
  rfl

/-- The selected boxes' left edges. -/
theorem arr1_7 (c : Dev nD) : (dat1 V c).arrAt 7 cfg1.N = (selected V c).2.2.1 := by
  refine (dat1 V c).arrAt_eq_of_after_last 7 t1_0 (by decide +kernel) _ fun j => ?_
  obtain ⟨e0, e1, e2, e3, e4, e5⟩ := whole_in V c
  rw [after1_7, e0, e1, e2, e3, e4, e5]
  unfold out1_7 selected
  rw [st_row, ld_plane, ld_plane, ld_plane, ld_plane, ld_plane, ld_plane]
  generalize nmsOut (F := Ideal) (V c main_v74) (V c main_v77) (V c main_v80) (V c main_v83) (V c main_v85) (V c main_v86) = z
  rfl

/-- The selected boxes' bottom edges. -/
theorem arr1_8 (c : Dev nD) : (dat1 V c).arrAt 8 cfg1.N = (selected V c).2.2.2.1 := by
  refine (dat1 V c).arrAt_eq_of_after_last 8 t1_0 (by decide +kernel) _ fun j => ?_
  obtain ⟨e0, e1, e2, e3, e4, e5⟩ := whole_in V c
  rw [after1_8, e0, e1, e2, e3, e4, e5]
  unfold out1_8 selected
  rw [st_row, ld_plane, ld_plane, ld_plane, ld_plane, ld_plane, ld_plane]
  generalize nmsOut (F := Ideal) (V c main_v74) (V c main_v77) (V c main_v80) (V c main_v83) (V c main_v85) (V c main_v86) = z
  rfl

/-- The selected boxes' right edges. -/
theorem arr1_9 (c : Dev nD) : (dat1 V c).arrAt 9 cfg1.N = (selected V c).2.2.2.2.1 := by
  refine (dat1 V c).arrAt_eq_of_after_last 9 t1_0 (by decide +kernel) _ fun j => ?_
  obtain ⟨e0, e1, e2, e3, e4, e5⟩ := whole_in V c
  rw [after1_9, e0, e1, e2, e3, e4, e5]
  unfold out1_9 selected
  rw [st_row, ld_plane, ld_plane, ld_plane, ld_plane, ld_plane, ld_plane]
  generalize nmsOut (F := Ideal) (V c main_v74) (V c main_v77) (V c main_v80) (V c main_v83) (V c main_v85) (V c main_v86) = z
  rfl

/-- The selected boxes' scores. -/
theorem arr1_10 (c : Dev nD) : (dat1 V c).arrAt 10 cfg1.N = (selected V c).2.2.2.2.2.1 := by
  refine (dat1 V c).arrAt_eq_of_after_last 10 t1_0 (by decide +kernel) _ fun j => ?_
  obtain ⟨e0, e1, e2, e3, e4, e5⟩ := whole_in V c
  rw [after1_10, e0, e1, e2, e3, e4, e5]
  unfold out1_10 selected
  rw [st_row, ld_plane, ld_plane, ld_plane, ld_plane, ld_plane, ld_plane]
  generalize nmsOut (F := Ideal) (V c main_v74) (V c main_v77) (V c main_v80) (V c main_v83) (V c main_v85) (V c main_v86) = z
  rfl

/-- The selected boxes' classes. -/
theorem arr1_11 (c : Dev nD) : (dat1 V c).arrAt 11 cfg1.N = (selected V c).2.2.2.2.2.2 := by
  refine (dat1 V c).arrAt_eq_of_after_last 11 t1_0 (by decide +kernel) _ fun j => ?_
  obtain ⟨e0, e1, e2, e3, e4, e5⟩ := whole_in V c
  rw [after1_11, e0, e1, e2, e3, e4, e5]
  unfold out1_11 selected
  rw [st_row, ld_plane, ld_plane, ld_plane, ld_plane, ld_plane, ld_plane]
  generalize nmsOut (F := Ideal) (V c main_v74) (V c main_v77) (V c main_v80) (V c main_v83) (V c main_v85) (V c main_v86) = z
  rfl

end Cert.KernelIdeal.Prf
-- ==== Proof.KernTail.lean ====
/- The kernel's results after its last launch: each column of the result, entry by entry, from the six selected rows. -/
module

public import proofs.«01_k».proof.Proof.Stages
public import Idealize.ShloMosaic.Lib.StableHlo.ReadAt

@[expose] public section

set_option maxRecDepth 16384

noncomputable section

namespace Cert.Same

open Idealize.ShloMosaic Idealize.ShloMosaic.StableHlo Idealize.ShloMosaic.TcCoe Idealize.ShloMosaic.Pointwise
open Cert.KernelIdeal.Gen
open Cert.KernelIdeal (main_v87_0 main_v87_1 main_v87_2 main_v87_3 main_v87_4 main_v87_5 main_v117 main_arg1 main_arg2)

/-- A coordinate moved into the picture. -/
abbrev clip (x : EReal) : EReal := min (Ideal.ofBits .f32 1140850688#32) (max (Ideal.ofBits .f32 0#32) x)

/-- The host's operations after the second kernel. -/
abbrev ended (A : KV) : KV :=
  after hostOps2_8 (after hostOps2_7 (after hostOps2_6 (after hostOps2_5 (after hostOps2_4 (after hostOps2_3 (after hostOps2_2
    (after hostOps2_1 (after hostOps2 A))))))))

/-- The result. -/
abbrev TO := (⟨KernelIdeal.S8x100x7, .f32⟩ : BufTy).Contents (Elt Ideal)
/-- A selected row. -/
abbrev TR := (⟨KernelIdeal.S8x128, .f32⟩ : BufTy).Contents (Elt Ideal)
/-- One number per image. -/
abbrev TI := (⟨KernelIdeal.S8, .f32⟩ : BufTy).Contents (Elt Ideal)
/-- One word per image. -/
abbrev II := (⟨KernelIdeal.S8, .i32⟩ : BufTy).Contents (Elt Ideal)

/-- One of the result's numbers. -/
abbrev numO (x : TO) (b : Fin 8) (t : Fin 100) (c : Fin 7) : EReal := x (ix3 b t c)
/-- One of a selected row's numbers. -/
abbrev numR (x : TR) (b : Fin 8) (t : Fin 100) : EReal := x (ix2 b ⟨t.val, by have := t.isLt; omega⟩)
/-- One image's number. -/
abbrev numI (x : TI) (b : Fin 8) : EReal := x (ix1 b)
/-- One image's word, as a number. -/
abbrev wordI (x : II) (b : Fin 8) : EReal := FloatOps.sitofp (F := Ideal) .f32 (x (ix1 b))

variable (A : KV) (b : Fin 8) (t : Fin 100)

/-- The image column and the two columns after the boxes: the image's number, the score, the class after one is added. -/
theorem kern_ends : numO (ended A (Proc.devRef .tc main_v117)) b t 0 = wordI (A (Proc.devRef .tc main_arg1)) b ∧
    numO (ended A (Proc.devRef .tc main_v117)) b t 5 = numR (A (Proc.devRef .tc main_v87_4)) b t ∧
    numO (ended A (Proc.devRef .tc main_v117)) b t 6 = numR (A (Proc.devRef .tc main_v87_5)) b t + 1 := by
  unfold ended numO
  refine ⟨?_, ?_, ?_⟩ <;> iterate 2 after_reads_at

/-- The box columns: left, top, width and height of the clipped box, by the image's scale. -/
theorem kern_boxes :
    numO (ended A (Proc.devRef .tc main_v117)) b t 1
      = clip (numR (A (Proc.devRef .tc main_v87_1)) b t) * numI (A (Proc.devRef .tc main_arg2)) b ∧
    numO (ended A (Proc.devRef .tc main_v117)) b t 2
      = clip (numR (A (Proc.devRef .tc main_v87_0)) b t) * numI (A (Proc.devRef .tc main_arg2)) b ∧
    numO (ended A (Proc.devRef .tc main_v117)) b t 3
      = (clip (numR (A (Proc.devRef .tc main_v87_3)) b t) - clip (numR (A (Proc.devRef .tc main_v87_1)) b t)) * numI (A (Proc.devRef .tc main_arg2)) b ∧
    numO (ended A (Proc.devRef .tc main_v117)) b t 4
      = (clip (numR (A (Proc.devRef .tc main_v87_2)) b t) - clip (numR (A (Proc.devRef .tc main_v87_0)) b t)) * numI (A (Proc.devRef .tc main_arg2)) b := by
  unfold ended numO
  refine ⟨?_, ?_, ?_, ?_⟩ <;> iterate 3 after_reads_at
  all_goals rfl

end Cert.Same
-- ==== Proof.RefTail.lean ====
/- The reference's results after its loop: each column of the result, entry by entry, from what the loop has kept. -/
module

public import proofs.«01_k».proof.Proof.KernTail
public import proofs.«01_k».proof.Proof.Planes
public import proofs.«01_k».proof.Proof.RefStep

@[expose] public section

set_option maxRecDepth 16384

noncomputable section

namespace Cert.Same

open Idealize.ShloMosaic Idealize.ShloMosaic.StableHlo Idealize.ShloMosaic.TcCoe Idealize.ShloMosaic.Pointwise
open Cert.ReferenceIdeal.Gen
open Cert.ReferenceIdeal (main_v122 main_v108 main_v84 main_v83 main_v81_3 main_v81_4 main_v66 main_v4 main_arg1 main_arg2)

/-- What the loop keeps: a word for each slot and image. -/
abbrev IK := (⟨ReferenceIdeal.S100x8, .i32⟩ : BufTy).Contents (Elt Ideal)
/-- What the loop keeps: a number for each slot and image. -/
abbrev TK := (⟨ReferenceIdeal.S100x8, .f32⟩ : BufTy).Contents (Elt Ideal)
/-- The kept boxes. -/
abbrev TX := (⟨ReferenceIdeal.S8x100x4, .f32⟩ : BufTy).Contents (Elt Ideal)
/-- The kept classes. -/
abbrev IC := (⟨ReferenceIdeal.S8x100, .i32⟩ : BufTy).Contents (Elt Ideal)

/-- One of the kept boxes' coordinates. -/
abbrev numX (x : TX) (b : Fin 8) (t : Fin 100) (c : Fin 4) : EReal := x (ix3 b t c)
/-- One of the kept classes, as a number. -/
abbrev wordC (x : IC) (b : Fin 8) (t : Fin 100) : EReal := FloatOps.sitofp (F := Ideal) .f32 (x (ix2 b t))
/-- One of the kept scores. -/
abbrev numK (x : TK) (t : Fin 100) (b : Fin 8) : EReal := x (ix2 t b)

/-- A conjunction of ones is one. -/
theorem all_ones {ι : Type} (s : Finset ι) : Finset.fold IntOp.andi (1#1) (fun _ => 1#1) s = 1#1 := by
  classical
  induction s using Finset.induction_on with
  | empty => rfl
  | insert a s h ih => rw [Finset.fold_insert h, ih]; rfl

/-- A place in range is not moved, and passes both tests of its range. -/
theorem in_range (j : Fin 1000) :
    Scalar.select (IntOp.cmpi .slt (BitVec.ofNat 32 j.val) 0#32) (IntOp.addi (BitVec.ofNat 32 j.val) 1000#32) (BitVec.ofNat 32 j.val)
      = BitVec.ofNat 32 j.val ∧
    IntOp.cmpi .sge (BitVec.ofNat 32 j.val) 0#32 = 1#1 ∧ IntOp.cmpi .sle (BitVec.ofNat 32 j.val) 999#32 = 1#1 := by
  have hj := j.isLt
  have h : (BitVec.ofNat 32 j.val).toInt = j.val := Cert.ReferenceIdeal.Prf.toInt_small _ (by omega)
  have h0 : (0#32 : BitVec 32).toInt = 0 := by decide
  have h9 : (999#32 : BitVec 32).toInt = 999 := by decide
  have p0 : ¬ ((j.val : ℤ) < 0) := by omega
  have p9 : (j.val : ℤ) ≤ 999 := by omega
  refine ⟨?_, ?_, ?_⟩
  · have : IntOp.cmpi .slt (BitVec.ofNat 32 j.val) 0#32 = 0#1 := by
      simp [IntOp.cmpi, BitVec.slt, h, h0, p0]
    rw [this]
    rfl
  · simp [IntOp.cmpi, BitVec.sle, BitVec.slt, h, h0]
  · simp [IntOp.cmpi, BitVec.sle, BitVec.slt, h, h9, p9]

variable (B : RV) (b : Fin 8) (t : Fin 100)

/-- The kept score is the loop's, or zero if that is negative. -/
theorem ref_kept : numK (after hostOps0_12 B (Proc.devRef .tc main_v83)) t b = max (numK (B (Proc.devRef .tc main_v81_3)) t b) 0 := by
  unfold numK
  after_reads_at

/-- The kept box is the one at the place the loop has kept. -/
theorem ref_box (c : Fin 4) (j : Fin 1000) (h : (B (Proc.devRef .tc main_v81_4) : IK) (ix2 t b) = BitVec.ofNat 32 j.val) :
    numX (after hostOps0_13 B (Proc.devRef .tc main_v84)) b t c = (B (Proc.devRef .tc main_v66) : T3) (ix3 b j c) := by
  obtain ⟨r, r0, r9⟩ := in_range j
  unfold numX
  after_reads_at
  rw [h, r, r0, r9]
  have e : IntOp.andi (1#1 : BitVec 1) 1#1 = 1#1 := rfl
  rw [e, all_ones]
  refine Cert.ReferenceIdeal.Prf.gather_boxes _ _ b t c j ?_
  pointwise []
  rw [h, r]

/-- The kept class is the one at the place the loop has kept. -/
theorem ref_class (j : Fin 1000) (h : (B (Proc.devRef .tc main_v81_4) : IK) (ix2 t b) = BitVec.ofNat 32 j.val) :
    (after hostOps0_17 B (Proc.devRef .tc main_v108) : IC) (ix2 b t) = (B (Proc.devRef .tc main_v4) : I2) (ix2 b j) := by
  obtain ⟨r, r0, r9⟩ := in_range j
  after_reads_at
  rw [h, r, r0, r9]
  have e : IntOp.andi (1#1 : BitVec 1) 1#1 = 1#1 := rfl
  rw [e, all_ones]
  refine Cert.ReferenceIdeal.Prf.gather_words _ _ b t j ?_
  pointwise []
  rw [h, r]

/-- The image column and the two columns after the boxes: the image's number, the score, the class after one is added. -/
theorem ref_ends : numO (after hostOps0_18 B (Proc.devRef .tc main_v122)) b t 0 = wordI (B (Proc.devRef .tc main_arg1)) b ∧
    numO (after hostOps0_18 B (Proc.devRef .tc main_v122)) b t 5 = numK (B (Proc.devRef .tc main_v83)) t b ∧
    numO (after hostOps0_18 B (Proc.devRef .tc main_v122)) b t 6 = wordC (B (Proc.devRef .tc main_v108)) b t + 1 := by
  unfold numO
  refine ⟨?_, ?_, ?_⟩ <;> iterate 2 after_reads_at

/-- The host's operations from the kept boxes to the result. -/
abbrev boxed (B : RV) : RV :=
  after hostOps0_18 (after hostOps0_17 (after hostOps0_16 (after hostOps0_15 (after hostOps0_14 B))))

/-- The box columns: left, top, width and height of the clipped box, by the image's scale. -/
theorem ref_box_columns :
    numO (boxed B (Proc.devRef .tc main_v122)) b t 1
      = clip (numX (B (Proc.devRef .tc main_v84)) b t 1) * numI (B (Proc.devRef .tc main_arg2)) b ∧
    numO (boxed B (Proc.devRef .tc main_v122)) b t 2
      = clip (numX (B (Proc.devRef .tc main_v84)) b t 0) * numI (B (Proc.devRef .tc main_arg2)) b ∧
    numO (boxed B (Proc.devRef .tc main_v122)) b t 3
      = (clip (numX (B (Proc.devRef .tc main_v84)) b t 3) - clip (numX (B (Proc.devRef .tc main_v84)) b t 1)) * numI (B (Proc.devRef .tc main_arg2)) b ∧
    numO (boxed B (Proc.devRef .tc main_v122)) b t 4
      = (clip (numX (B (Proc.devRef .tc main_v84)) b t 2) - clip (numX (B (Proc.devRef .tc main_v84)) b t 0)) * numI (B (Proc.devRef .tc main_arg2)) b := by
  unfold boxed numO
  refine ⟨?_, ?_, ?_, ?_⟩ <;> iterate 3 after_reads_at
  all_goals rfl

end Cert.Same
-- ==== Proof.Tail.lean ====
/- The two results are equal, entry by entry, when each slot holds in the kernel the box, the score and the class of the
   place that the reference's loop has kept. -/
module

public import proofs.«01_k».proof.Proof.RefTail
public import proofs.«01_k».proof.Proof.ReferenceRun

@[expose] public section

set_option maxRecDepth 16384

noncomputable section

namespace Cert.Same

open Idealize.ShloMosaic Idealize.ShloMosaic.StableHlo Idealize.ShloMosaic.TcCoe Idealize.ShloMosaic.Pointwise
open Cert.ReferenceIdeal.Gen Cert.ReferenceIdeal.Value Cert.ReferenceIdeal.Prf
open Cert.ReferenceIdeal (main_v122 main_v108 main_v84 main_v83 main_v81_3 main_v81_4 main_v66 main_v4 main_arg1 main_arg2)

variable (E : RV)

/-- The contents after the kept boxes are taken. -/
abbrev taken : RV := after hostOps0_13 (after hostOps0_12 E)
/-- The contents before the kept classes are taken. -/
abbrev scaled : RV := after hostOps0_16 (after hostOps0_15 (after hostOps0_14 (taken E)))

/-- What the operations up to the boxes leave as it was. -/
theorem taken_keeps (r : Ref ReferenceIdeal.sig .tc) (h : r ∈ [main_v81_4, main_v4, main_arg1, main_arg2]) :
    taken E (Proc.devRef .tc r) = E (Proc.devRef .tc r) := by
  unfold taken
  fin_cases h <;>
    rw [after_of_writes_sub hostOps0_13 _ hostOps0_13_writes (by decide), after_of_writes_sub hostOps0_12 _ hostOps0_12_writes (by decide)]

/-- What the operations up to the classes leave as it was. -/
theorem scaled_keeps (r : Ref ReferenceIdeal.sig .tc) (h : r ∈ [main_v81_4, main_v4, main_v83, main_arg1]) :
    scaled E (Proc.devRef .tc r) = taken E (Proc.devRef .tc r) := by
  unfold scaled
  fin_cases h <;>
    rw [after_of_writes_sub hostOps0_16 _ hostOps0_16_writes (by decide), after_of_writes_sub hostOps0_15 _ hostOps0_15_writes (by decide),
      after_of_writes_sub hostOps0_14 _ hostOps0_14_writes (by decide)]

/-- The reference's result, one slot of one image at a time, from the place kept there. -/
theorem ref_columns (b : Fin 8) (t : Fin 100) (j : Fin 1000) (h : (E (Proc.devRef .tc main_v81_4) : IK) (ix2 t b) = BitVec.ofNat 32 j.val) :
    numO (boxed (taken E) (Proc.devRef .tc main_v122)) b t 0 = wordI (E (Proc.devRef .tc main_arg1)) b ∧
    numO (boxed (taken E) (Proc.devRef .tc main_v122)) b t 1
      = clip (num3 (E (Proc.devRef .tc main_v66)) b j 1) * numI (E (Proc.devRef .tc main_arg2)) b ∧
    numO (boxed (taken E) (Proc.devRef .tc main_v122)) b t 2
      = clip (num3 (E (Proc.devRef .tc main_v66)) b j 0) * numI (E (Proc.devRef .tc main_arg2)) b ∧
    numO (boxed (taken E) (Proc.devRef .tc main_v122)) b t 3
      = (clip (num3 (E (Proc.devRef .tc main_v66)) b j 3) - clip (num3 (E (Proc.devRef .tc main_v66)) b j 1)) * numI (E (Proc.devRef .tc main_arg2)) b ∧
    numO (boxed (taken E) (Proc.devRef .tc main_v122)) b t 4
      = (clip (num3 (E (Proc.devRef .tc main_v66)) b j 2) - clip (num3 (E (Proc.devRef .tc main_v66)) b j 0)) * numI (E (Proc.devRef .tc main_arg2)) b ∧
    numO (boxed (taken E) (Proc.devRef .tc main_v122)) b t 5 = max (numK (E (Proc.devRef .tc main_v81_3)) t b) 0 ∧
    numO (boxed (taken E) (Proc.devRef .tc main_v122)) b t 6
      = FloatOps.sitofp (F := Ideal) .f32 ((E (Proc.devRef .tc main_v4) : I2) (ix2 b j)) + 1 := by
  have h12 : (after hostOps0_12 E (Proc.devRef .tc main_v81_4) : IK) (ix2 t b) = BitVec.ofNat 32 j.val := by
    rw [after_of_writes_sub hostOps0_12 _ hostOps0_12_writes (by decide)]
    exact h
  have box : ∀ c, numX (taken E (Proc.devRef .tc main_v84)) b t c = num3 (E (Proc.devRef .tc main_v66)) b j c := fun c => by
    refine (ref_box _ b t c j h12).trans ?_
    rw [after_of_writes_sub hostOps0_12 _ hostOps0_12_writes (by decide)]
  have cls : (after hostOps0_17 (scaled E) (Proc.devRef .tc main_v108) : IC) (ix2 b t) = (E (Proc.devRef .tc main_v4) : I2) (ix2 b j) := by
    refine (ref_class _ b t j ?_).trans ?_
    · rw [scaled_keeps E _ (by decide), taken_keeps E _ (by decide)]
      exact h
    · rw [scaled_keeps E _ (by decide), taken_keeps E _ (by decide)]
  obtain ⟨e0, e5, e6⟩ := ref_ends (after hostOps0_17 (scaled E)) b t
  obtain ⟨e1, e2, e3, e4⟩ := ref_box_columns (taken E) b t
  rw [taken_keeps E main_arg2 (by decide)] at e1 e2 e3 e4
  rw [box] at e1 e2
  rw [box, box] at e3 e4
  refine ⟨e0.trans ?_, e1, e2, e3, e4, e5.trans ?_, e6.trans ?_⟩
  · rw [after_of_writes_sub hostOps0_17 _ hostOps0_17_writes (by decide), scaled_keeps E _ (by decide), taken_keeps E _ (by decide)]
  · rw [after_of_writes_sub hostOps0_17 _ hostOps0_17_writes (by decide), scaled_keeps E _ (by decide)]
    unfold taken
    rw [after_of_writes_sub hostOps0_13 _ hostOps0_13_writes (by decide)]
    exact ref_kept E b t
  · unfold wordC
    rw [cls]

/-- One slot of one image, in the two results. -/
theorem tail_point (A : KV) (x : II) (y : TI) (hx : A (Proc.devRef .tc KernelIdeal.main_arg1) = x) (hx' : E (Proc.devRef .tc main_arg1) = x)
    (hy : A (Proc.devRef .tc KernelIdeal.main_arg2) = y) (hy' : E (Proc.devRef .tc main_arg2) = y) (b : Fin 8) (t : Fin 100) (j : Fin 1000)
    (h : (E (Proc.devRef .tc main_v81_4) : IK) (ix2 t b) = BitVec.ofNat 32 j.val)
    (h0 : numR (A (Proc.devRef .tc KernelIdeal.main_v87_0)) b t = num3 (E (Proc.devRef .tc main_v66)) b j 0)
    (h1 : numR (A (Proc.devRef .tc KernelIdeal.main_v87_1)) b t = num3 (E (Proc.devRef .tc main_v66)) b j 1)
    (h2 : numR (A (Proc.devRef .tc KernelIdeal.main_v87_2)) b t = num3 (E (Proc.devRef .tc main_v66)) b j 2)
    (h3 : numR (A (Proc.devRef .tc KernelIdeal.main_v87_3)) b t = num3 (E (Proc.devRef .tc main_v66)) b j 3)
    (h4 : numR (A (Proc.devRef .tc KernelIdeal.main_v87_4)) b t = max (numK (E (Proc.devRef .tc main_v81_3)) t b) 0)
    (h5 : numR (A (Proc.devRef .tc KernelIdeal.main_v87_5)) b t = FloatOps.sitofp (F := Ideal) .f32 ((E (Proc.devRef .tc main_v4) : I2) (ix2 b j)))
    (c : Fin 7) :
    numO (boxed (taken E) (Proc.devRef .tc main_v122)) b t c = numO (ended A (Proc.devRef .tc KernelIdeal.main_v117)) b t c := by
  obtain ⟨r0, r1, r2, r3, r4, r5, r6⟩ := ref_columns E b t j h
  obtain ⟨k0, k5, k6⟩ := kern_ends A b t
  obtain ⟨k1, k2, k3, k4⟩ := kern_boxes A b t
  rw [hx'] at r0
  rw [hx] at k0
  rw [hy'] at r1 r2 r3 r4
  rw [hy] at k1 k2 k3 k4
  rw [h1] at k1
  rw [h0] at k2
  rw [h3, h1] at k3
  rw [h2, h0] at k4
  rw [h4] at k5
  rw [h5] at k6
  match c with
  | ⟨0, _⟩ => exact r0.trans k0.symm
  | ⟨1, _⟩ => exact r1.trans k1.symm
  | ⟨2, _⟩ => exact r2.trans k2.symm
  | ⟨3, _⟩ => exact r3.trans k3.symm
  | ⟨4, _⟩ => exact r4.trans k4.symm
  | ⟨5, _⟩ => exact r5.trans k5.symm
  | ⟨6, _⟩ => exact r6.trans k6.symm

end Cert.Same
-- ==== Proof.Value.lean ====
/- The value of the kernel: launched on the same arguments, it ends with the reference's result. -/
module

public import proofs.«01_k».proof.Proof.Front
public import proofs.«01_k».proof.Proof.Region
public import proofs.«01_k».proof.Proof.Tail

@[expose] public section

set_option maxRecDepth 16384

noncomputable section

namespace Cert.Same

open Idealize.ShloMosaic Idealize.ShloMosaic.StableHlo Idealize.ShloMosaic.TcCoe Idealize.ShloMosaic.Pointwise
open Cert.Top (wide Sim)
open Cert.ReferenceIdeal.Value (STEP preI bodyI postI condOps atK atK_agree cond_keeps)
open Cert.KernelIdeal.Prf (nmsOut nmsInit nmsStep)

/-- After all hundred trips the two loops agree. -/
theorem sim_end (D : Fin 8 → Fin 1000 → Fin 4 → EReal) (C : Fin 8 → Fin 1000 → EReal) (x0 x1 x2 x3 x4 x5 : TP) (V : RV)
    (h0 : ∀ b l, numP x0 b (wide l) = D b l 0) (h1 : ∀ b l, numP x1 b (wide l) = D b l 1)
    (h2 : ∀ b l, numP x2 b (wide l) = D b l 2) (h3 : ∀ b l, numP x3 b (wide l) = D b l 3)
    (h4 : ∀ b l, numP x4 b (wide l) = C b l) (S : Sim D C 0 (nmsInit (F := Ideal) x5) V) :
    Sim D C 100 (nmsOut (F := Ideal) x0 x1 x2 x3 x4 x5) (STEP^[100] V) := by
  have ht : KernelIdeal.k1_t1_loop.trips = 100 := by decide
  unfold nmsOut
  rw [Scf.fold_eq]
  have := Cert.KernelIdeal.Prf.fold_keeps (n := KernelIdeal.k1_t1_loop.trips)
    (fun k a => nmsStep (F := Ideal) x0 x1 x2 x3 x4 (Scf.iv 0#32 1#32 k) a) (fun k a => Sim D C k a (STEP^[k] V)) (nmsInit (F := Ideal) x5) S
    fun k a hk => by
      rw [Function.iterate_succ_apply']
      exact Cert.Top.Sim.step D C x0 x1 x2 x3 x4 h0 h1 h2 h3 h4 (ht ▸ k.isLt) hk
  rw [ht] at this
  exact this

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- What the reference's loop is entered from. -/
abbrev entered : RV := after ReferenceIdeal.Gen.hostOps0_11 (nearLoop m' c)
/-- What the reference's loop leaves. -/
abbrev looped : RV := after condOps (atK m' 100 c)

open ReferenceIdeal.Gen ReferenceIdeal.Value ReferenceIdeal.Prf in
/-- One trip of the reference's loop leaves the boxes and the classes as they were. -/
theorem body_keeps (V : RV) (r : Ref ReferenceIdeal.sig .tc) (h : r ∈ [ReferenceIdeal.main_v66, ReferenceIdeal.main_v4]) :
    afterL bodyI V (Proc.devRef .tc r) = V (Proc.devRef .tc r) := by
  simp only [afterL_cons, afterL_nil]
  fin_cases h <;>
  rw [after_of_writes_sub while0Ops0_12 _ while0Ops0_12_writes (by decide), after_of_writes_sub while0Ops0_11 _ while0Ops0_11_writes (by decide),
    after_of_writes_sub while0Ops0_10 _ while0Ops0_10_writes (by decide), after_of_writes_sub while0Ops0_9 _ while0Ops0_9_writes (by decide),
    after_of_writes_sub while0Ops0_8 _ while0Ops0_8_writes (by decide), after_of_writes_sub while0Ops0_7 _ while0Ops0_7_writes (by decide),
    after_of_writes_sub while0Ops0_6 _ while0Ops0_6_writes (by decide), after_of_writes_sub while0Ops0_5 _ while0Ops0_5_writes (by decide),
    after_of_writes_sub while0Ops0_4 _ while0Ops0_4_writes (by decide), after_of_writes_sub while0Ops0_3 _ while0Ops0_3_writes (by decide),
    after_of_writes_sub while0Ops0_2 _ while0Ops0_2_writes (by decide), after_of_writes_sub while0Ops0_1 _ while0Ops0_1_writes (by decide),
    after_of_writes_sub while0Ops0 _ while0Ops0_writes (by decide)]

/-- The condition leaves them as they were. -/
theorem condition_keeps (V : RV) (r : Ref ReferenceIdeal.sig .tc) (h : r ∈ [ReferenceIdeal.main_v66, ReferenceIdeal.main_v4]) :
    after condOps V (Proc.devRef .tc r) = V (Proc.devRef .tc r) := by
  fin_cases h <;> rw [after_of_writes_sub condOps _ ReferenceIdeal.Value.condOps_writes (by decide)]

/-- Before every trip the boxes and the classes are those the loop is entered with. -/
theorem trips_keep (r : Ref ReferenceIdeal.sig .tc) (h : r ∈ [ReferenceIdeal.main_v66, ReferenceIdeal.main_v4]) :
    ∀ k, atK m' k c (Proc.devRef .tc r) = entered m' c (Proc.devRef .tc r)
  | 0 => congrFun (entry_eq m' c) _
  | k + 1 => (body_keeps _ r h).trans ((condition_keeps _ r h).trans (trips_keep r h k))

/-- After the loop too. -/
theorem looped_keeps (r : Ref ReferenceIdeal.sig .tc) (h : r ∈ [ReferenceIdeal.main_v66, ReferenceIdeal.main_v4]) :
    looped m' c (Proc.devRef .tc r) = entered m' c (Proc.devRef .tc r) :=
  (condition_keeps _ r h).trans (trips_keep m' c r h 100)

/-- The loop leaves what a hundred steps leave. -/
theorem looped_steps (r : Ref ReferenceIdeal.sig .tc) (h : r ∈ ReferenceIdeal.Value.carriedRefs) :
    looped m' c (Proc.devRef .tc r) = STEP^[100] (entered m' c) (Proc.devRef .tc r) :=
  (cond_keeps _ r h).trans ((atK_agree m' c 100 r h).trans (by rw [entry_eq]))

/-- The loop leaves the arguments as launched. -/
theorem looped_args (a : Ref ReferenceIdeal.sig .tc) (ha : a ∈ ReferenceIdeal.Prf.argRefs) :
    looped m' c (Proc.devRef .tc a) = m' ((c.tc : Thread ReferenceIdeal.nD ReferenceIdeal.τ).loc a) :=
  (ReferenceIdeal.Prf.keeps_cond _ a ha).trans (ReferenceIdeal.Prf.keeps_trip m' c a ha 100)

/-- The reference's last contents. -/
theorem fin_eq : ReferenceIdeal.Prf.fin m' c = boxed (taken (looped m' c)) := by
  simp only [ReferenceIdeal.Prf.fin, finalContents, afterL_cons, afterL_nil]

/-- The second kernel's six rows. -/
theorem rows :
    KernelIdeal.Prf.W25 m ρ c (Proc.devRef .tc KernelIdeal.main_v87_0) = (KernelIdeal.Prf.selected (KernelIdeal.Prf.V24 m ρ) c).2.1 ∧
    KernelIdeal.Prf.W25 m ρ c (Proc.devRef .tc KernelIdeal.main_v87_1) = (KernelIdeal.Prf.selected (KernelIdeal.Prf.V24 m ρ) c).2.2.1 ∧
    KernelIdeal.Prf.W25 m ρ c (Proc.devRef .tc KernelIdeal.main_v87_2) = (KernelIdeal.Prf.selected (KernelIdeal.Prf.V24 m ρ) c).2.2.2.1 ∧
    KernelIdeal.Prf.W25 m ρ c (Proc.devRef .tc KernelIdeal.main_v87_3) = (KernelIdeal.Prf.selected (KernelIdeal.Prf.V24 m ρ) c).2.2.2.2.1 ∧
    KernelIdeal.Prf.W25 m ρ c (Proc.devRef .tc KernelIdeal.main_v87_4) = (KernelIdeal.Prf.selected (KernelIdeal.Prf.V24 m ρ) c).2.2.2.2.2.1 ∧
    KernelIdeal.Prf.W25 m ρ c (Proc.devRef .tc KernelIdeal.main_v87_5) = (KernelIdeal.Prf.selected (KernelIdeal.Prf.V24 m ρ) c).2.2.2.2.2.2 :=
  ⟨(KernelIdeal.Prf.W25_arr m ρ c 6).trans (KernelIdeal.Prf.arr1_6 _ c), (KernelIdeal.Prf.W25_arr m ρ c 7).trans (KernelIdeal.Prf.arr1_7 _ c),
    (KernelIdeal.Prf.W25_arr m ρ c 8).trans (KernelIdeal.Prf.arr1_8 _ c), (KernelIdeal.Prf.W25_arr m ρ c 9).trans (KernelIdeal.Prf.arr1_9 _ c),
    (KernelIdeal.Prf.W25_arr m ρ c 10).trans (KernelIdeal.Prf.arr1_10 _ c), (KernelIdeal.Prf.W25_arr m ρ c 11).trans (KernelIdeal.Prf.arr1_11 _ c)⟩

/-- After the second kernel and the reference's loop, the selections agree. -/
theorem sim_done (h : SameArgs m m' c) : Sim (boxesOf (entered m' c)) (classesOf (entered m' c)) 100
    (KernelIdeal.Prf.selected (KernelIdeal.Prf.V24 m ρ) c) (STEP^[100] (entered m' c)) := by
  have S := same_loop m ρ m' c h
  have P := planes_eq (KernelIdeal.Prf.W12 m ρ c) (nearLoop m' c) S
  exact sim_end _ _ _ _ _ _ _ _ _ (fun b l => (P b l).1) (fun b l => (P b l).2.1) (fun b l => (P b l).2.2.1)
    (fun b l => (P b l).2.2.2.1) (fun b l => (P b l).2.2.2.2)
    (sim_start (KernelIdeal.Prf.W12 m ρ c) (nearLoop m' c) S
      (after_of_writes_sub ReferenceIdeal.Gen.hostOps0_11 _ ReferenceIdeal.Value.hostOps0_11_writes (by decide)))

/-- The two results are equal. -/
theorem result_eq (h : SameArgs m m' c)
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    (ReferenceIdeal.Prf.fin m' c (Proc.devRef .tc ReferenceIdeal.main_v122) : TO)
      = KernelIdeal.Prf.W34 m ρ c (Proc.devRef .tc KernelIdeal.main_v117) := by
  have S := sim_done m ρ m' c h
  obtain ⟨r0, r1, r2, r3, r4, r5⟩ := rows m ρ c
  rw [fin_eq]
  funext i
  rw [eq_ix3 i]
  obtain ⟨j, kj, k0, k1, k2, k3, k4, k5⟩ := S.kept (i 0) (i 1) (i 1).isLt
  refine tail_point (looped m' c) (KernelIdeal.Prf.W25 m ρ c) _ _ (KernelIdeal.Prf.W25_args m ρ c KernelIdeal.main_arg1 (by decide))
    ((looped_args m' c _ (by decide)).trans h1) (KernelIdeal.Prf.W25_args m ρ c KernelIdeal.main_arg2 (by decide))
    ((looped_args m' c _ (by decide)).trans h2) (i 0) (i 1) j ?_ ?_ ?_ ?_ ?_ ?_ ?_ (i 2)
  · rw [looped_steps m' c _ (by decide)]
    exact kj
  · rw [r0, looped_keeps m' c _ (by decide)]
    exact k0
  · rw [r1, looped_keeps m' c _ (by decide)]
    exact k1
  · rw [r2, looped_keeps m' c _ (by decide)]
    exact k2
  · rw [r3, looped_keeps m' c _ (by decide)]
    exact k3
  · rw [r4, looped_steps m' c _ (by decide)]
    exact k4
  · rw [r5, looped_keeps m' c _ (by decide)]
    exact k5

end Cert.Same
-- ==== Proof.lean ====
/- The proof of this directory's claim: the runs of the three programs, with every counter back at zero, and the equality
   of the kernel's result with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.ReferenceRun
public import proofs.«01_k».proof.Proof.Value

@[expose] public section

noncomputable section

namespace Cert.Proof

open Idealize.ShloMosaic Idealize.ShloMosaic.TcCoe Idealize.SL.Sem

/-- Launched on the same arguments, kernel and reference both run, end with equal results, and leave their arguments. -/
theorem values : Cert.algebraic_KernelIdeal_ReferenceIdeal (hKernelIdeal := Cert.KernelIdeal.Gen.facts)
    (hReferenceIdeal := Cert.ReferenceIdeal.Gen.facts) := fun m g m' g' _ h => by
  have out : ∀ c, Cert.ReferenceIdeal.Prf.fin m' c (Proc.devRef .tc Cert.ReferenceIdeal.main_v122)
      = Cert.KernelIdeal.Prf.W34 m g c (Proc.devRef .tc Cert.KernelIdeal.main_v117) := fun c =>
    Cert.Same.result_eq m g m' c ⟨(h c).1, (h c).2.2.2.1, (h c).2.2.2.2.1, (h c).2.2.2.2.2⟩ (h c).2.1 (h c).2.2.1
  refine ⟨fun c => Cert.KernelIdeal.Prf.W34 m g c (Proc.devRef .tc Cert.KernelIdeal.main_v117),
    (θ_run Cert.KernelIdeal.defs _ _).mono (fun r k c => ⟨k.1 c _ (by decide), ?_⟩) (Cert.KernelIdeal.Prf.run m g),
    (θ_run Cert.ReferenceIdeal.defs _ _).mono (fun r k c => ⟨(k.1 c _ (by decide)).trans (out c), ?_⟩) (Cert.ReferenceIdeal.Prf.run m' g')⟩
  · exact ⟨(k.1 c _ (by decide)).trans (Cert.KernelIdeal.Prf.W34_args m g c _ (by decide)),
      (k.1 c _ (by decide)).trans (Cert.KernelIdeal.Prf.W34_args m g c _ (by decide)),
      (k.1 c _ (by decide)).trans (Cert.KernelIdeal.Prf.W34_args m g c _ (by decide)),
      (k.1 c _ (by decide)).trans (Cert.KernelIdeal.Prf.W34_args m g c _ (by decide)),
      (k.1 c _ (by decide)).trans (Cert.KernelIdeal.Prf.W34_args m g c _ (by decide)),
      (k.1 c _ (by decide)).trans (Cert.KernelIdeal.Prf.W34_args m g c _ (by decide))⟩
  · exact ⟨(k.1 c _ (by decide)).trans (Cert.ReferenceIdeal.Prf.fin_args m' c _ (by decide)),
      (k.1 c _ (by decide)).trans (Cert.ReferenceIdeal.Prf.fin_args m' c _ (by decide)),
      (k.1 c _ (by decide)).trans (Cert.ReferenceIdeal.Prf.fin_args m' c _ (by decide)),
      (k.1 c _ (by decide)).trans (Cert.ReferenceIdeal.Prf.fin_args m' c _ (by decide)),
      (k.1 c _ (by decide)).trans (Cert.ReferenceIdeal.Prf.fin_args m' c _ (by decide)),
      (k.1 c _ (by decide)).trans (Cert.ReferenceIdeal.Prf.fin_args m' c _ (by decide))⟩

/-- Everything claimed holds. -/
theorem claim : Cert.Claim := ⟨Cert.Kernel.Gen.facts, Cert.KernelIdeal.Gen.facts, Cert.ReferenceIdeal.Gen.facts,
  fun m g _ => Cert.Kernel.Prf.frame m g, fun m g _ => Cert.KernelIdeal.Prf.frame m g,
  fun m g _ => Cert.ReferenceIdeal.Prf.frame m g, trivial, values⟩

end Cert.Proof

end
